-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "beta_over_n" .f32 0x3E924925#32 ((2 * 7⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x14x14x512 : Shape := ⟨4, ![8, 14, 14, 512]⟩
abbrev S1x14x14x512 : Shape := ⟨4, ![1, 14, 14, 512]⟩
abbrev S14x14x512 : Shape := ⟨3, ![14, 14, 512]⟩
abbrev S196x512 : Shape := ⟨2, ![196, 512]⟩
abbrev S196x16 : Shape := ⟨2, ![196, 16]⟩
abbrev S_ : Shape := ⟨0, ![]⟩
abbrev S16 : Shape := ⟨1, ![16]⟩
abbrev S1x16 : Shape := ⟨2, ![1, 16]⟩
abbrev S8x196x512 : Shape := ⟨3, ![8, 196, 512]⟩
abbrev S1 : Shape := ⟨1, ![1]⟩

abbrev nBuf : Table → Nat
  | .hbm => 11
  | .local .scVector .vmem => 2
  | _ => 0

abbrev bufTy : (tb : Table) → Fin (nBuf tb) → BufTy
  | .hbm, ⟨0, _⟩ => ⟨S8x14x14x512, .f32⟩
  | .hbm, ⟨1, _⟩ => ⟨S1x14x14x512, .f32⟩
  | .hbm, ⟨2, _⟩ => ⟨S14x14x512, .f32⟩
  | .hbm, ⟨3, _⟩ => ⟨S196x512, .f32⟩
  | .hbm, ⟨4, _⟩ => ⟨S196x512, .f32⟩
  | .hbm, ⟨5, _⟩ => ⟨S_, .f32⟩
  | .hbm, ⟨6, _⟩ => ⟨S8x196x512, .f32⟩
  | .hbm, ⟨7, _⟩ => ⟨S_, .i32⟩
  | .hbm, ⟨8, _⟩ => ⟨S1, .i32⟩
  | .hbm, ⟨9, _⟩ => ⟨S8x196x512, .f32⟩
  | .hbm, ⟨10, _⟩ => ⟨S8x14x14x512, .f32⟩
  | .local .scVector .vmem, ⟨0, _⟩ => ⟨S196x16, .f32⟩
  | .local .scVector .vmem, ⟨1, _⟩ => ⟨S196x16, .f32⟩
  | _, _ => ⟨S8x14x14x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v2_scv : Ref sig .scVector := ⟨.hbm, 3, rfl⟩
abbrev main_v3_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![0, v2.toNat]
@[reducible] def k0_t1_loop : Scf.Loop 32 :=
  let c0_i32_4 : BitVec 32 := 0#32
  let c196_i32 : BitVec 32 := 196#32
  let v9 : BitVec 32 := Scalar.addi c0_i32_4 c196_i32
  let c1_i32 : BitVec 32 := 1#32
  ⟨c0_i32_4, v9, c1_i32⟩
def k0_off2 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let v23 : Index := Scalar.indexCast arg8
  let c0 : Index := 0#32
  ![v23.toNat, 0]
@[reducible] def k0_t2_loop : Scf.Loop 32 :=
  let c0_i32_7 : BitVec 32 := 0#32
  let c14_i32_8 : BitVec 32 := 14#32
  let v16 : BitVec 32 := Scalar.addi c0_i32_7 c14_i32_8
  let c1_i32_9 : BitVec 32 := 1#32
  ⟨c0_i32_7, v16, c1_i32_9⟩
def k0_off3 (k0_t2 : Fin k0_t2_loop.trips) (c0_i32_16 : BitVec 32) : Fin 2 → Nat :=
  let c0_i32_7 : BitVec 32 := 0#32
  let c1_i32_9 : BitVec 32 := 1#32
  let arg8 : BitVec 32 := Scf.iv c0_i32_7 c1_i32_9 k0_t2
  let c14_i32_17 : BitVec 32 := 14#32
  let v28 : BitVec 32 := Scalar.muli arg8 c14_i32_17
  let v29 : BitVec 32 := Scalar.addi v28 c0_i32_16
  let v41 : Index := Scalar.indexCast v29
  let c0 : Index := 0#32
  ![v41.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "beta_over_n" => some ((2 * 7⁻¹ : ℝ) : EReal)
  | _ => none
-- ==== ReferenceIdeal.lean ====
abbrev S8x14x14x512 : Shape := ⟨4, ![8, 14, 14, 512]⟩
abbrev S1x14x14x512 : Shape := ⟨4, ![1, 14, 14, 512]⟩
abbrev S14x14x512 : Shape := ⟨3, ![14, 14, 512]⟩
abbrev S196x512 : Shape := ⟨2, ![196, 512]⟩
abbrev S_ : Shape := ⟨0, ![]⟩
abbrev S512 : Shape := ⟨1, ![512]⟩
abbrev S14 : Shape := ⟨1, ![14]⟩
abbrev S14x1x1 : Shape := ⟨3, ![14, 1, 1]⟩
abbrev S1x14x1 : Shape := ⟨3, ![1, 14, 1]⟩
abbrev S1x1x512 : Shape := ⟨3, ![1, 1, 512]⟩
abbrev S14x1x512 : Shape := ⟨3, ![14, 1, 512]⟩
abbrev S1x14x512 : Shape := ⟨3, ![1, 14, 512]⟩
abbrev S1 : Shape := ⟨1, ![1]⟩

abbrev nBuf : Space → Nat
  | .hbm => 89
  | .vmem => 0
  | .smem => 0
  | _ => 0

abbrev bufTy : (tb : Table) → Fin (tcTables nBuf tb) → BufTy
  | .hbm, ⟨0, _⟩ => ⟨S8x14x14x512, .f32⟩
  | .hbm, ⟨1, _⟩ => ⟨S1x14x14x512, .f32⟩
  | .hbm, ⟨2, _⟩ => ⟨S14x14x512, .f32⟩
  | .hbm, ⟨3, _⟩ => ⟨S196x512, .f32⟩
  | .hbm, ⟨4, _⟩ => ⟨S196x512, .i32⟩
  | .hbm, ⟨5, _⟩ => ⟨S_, .f32⟩
  | .hbm, ⟨6, _⟩ => ⟨S_, .i32⟩
  | .hbm, ⟨7, _⟩ => ⟨S512, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S_, .i1⟩
  | .hbm, ⟨44, _⟩ => ⟨S512, .i1⟩
  | .hbm, ⟨45, _⟩ => ⟨S512, .i1⟩
  | .hbm, ⟨46, _⟩ => ⟨S512, .i1⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512, .f32⟩
  | .hbm, ⟨51, _⟩ => ⟨S14, .f32⟩
  | .hbm, ⟨52, _⟩ => ⟨S14x1x1, .f32⟩
  | .hbm, ⟨53, _⟩ => ⟨S14, .f32⟩
  | .hbm, ⟨54, _⟩ => ⟨S1x14x1, .f32⟩
  | .hbm, ⟨55, _⟩ => ⟨S1x1x512, .f32⟩
  | .hbm, ⟨56, _⟩ => ⟨S14x1x512, .f32⟩
  | .hbm, ⟨57, _⟩ => ⟨S14x1x512, .f32⟩
  | .hbm, ⟨58, _⟩ => ⟨S14x1x512, .f32⟩
  | .hbm, ⟨59, _⟩ => ⟨S14x1x512, .f32⟩
  | .hbm, ⟨60, _⟩ => ⟨S1x1x512, .f32⟩
  | .hbm, ⟨61, _⟩ => ⟨S1x14x512, .f32⟩
  | .hbm, ⟨62, _⟩ => ⟨S1x14x512, .f32⟩
  | .hbm, ⟨63, _⟩ => ⟨S1x14x512, .f32⟩
  | .hbm, ⟨64, _⟩ => ⟨S1x14x512, .f32⟩
  | .hbm, ⟨65, _⟩ => ⟨S14x14x512, .f32⟩
  | .hbm, ⟨66, _⟩ => ⟨S14x14x512, .f32⟩
  | .hbm, ⟨67, _⟩ => ⟨S14x14x512, .f32⟩
  | .hbm, ⟨68, _⟩ => ⟨S_, .f32⟩
  | .hbm, ⟨69, _⟩ => ⟨S14x14x512, .f32⟩
  | .hbm, ⟨70, _⟩ => ⟨S14x14x512, .f32⟩
  | .hbm, ⟨71, _⟩ => ⟨S_, .f32⟩
  | .hbm, ⟨72, _⟩ => ⟨S14x14x512, .f32⟩
  | .hbm, ⟨73, _⟩ => ⟨S14x14x512, .f32⟩
  | .hbm, ⟨74, _⟩ => ⟨S_, .f32⟩
  | .hbm, ⟨75, _⟩ => ⟨S14x14x512, .f32⟩
  | .hbm, ⟨76, _⟩ => ⟨S14x14x512, .f32⟩
  | .hbm, ⟨77, _⟩ => ⟨S_, .f32⟩
  | .hbm, ⟨78, _⟩ => ⟨S14x14x512, .f32⟩
  | .hbm, ⟨79, _⟩ => ⟨S14x14x512, .f32⟩
  | .hbm, ⟨80, _⟩ => ⟨S_, .f32⟩
  | .hbm, ⟨81, _⟩ => ⟨S14x14x512, .f32⟩
  | .hbm, ⟨82, _⟩ => ⟨S14x14x512, .f32⟩
  | .hbm, ⟨83, _⟩ => ⟨S14x14x512, .f32⟩
  | .hbm, ⟨84, _⟩ => ⟨S_, .f32⟩
  | .hbm, ⟨85, _⟩ => ⟨S8x14x14x512, .f32⟩
  | .hbm, ⟨86, _⟩ => ⟨S_, .i32⟩
  | .hbm, ⟨87, _⟩ => ⟨S1, .i32⟩
  | .hbm, ⟨88, _⟩ => ⟨S8x14x14x512, .f32⟩
  | _, _ => ⟨S8x14x14x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v3 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call2_v0 : Ref sig .tc := ⟨.hbm, 29, rfl⟩
abbrev main_call2_c : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_c_1 : Ref sig .tc := ⟨.hbm, 36, rfl⟩
abbrev main_call2_v5 : Ref sig .tc := ⟨.hbm, 37, rfl⟩
abbrev main_call2_v6 : Ref sig .tc := ⟨.hbm, 38, rfl⟩
abbrev main_call2_c_2 : Ref sig .tc := ⟨.hbm, 39, rfl⟩
abbrev main_call2_v7 : Ref sig .tc := ⟨.hbm, 40, rfl⟩
abbrev main_call2_v8 : Ref sig .tc := ⟨.hbm, 41, rfl⟩
abbrev main_call2_c_3 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst : Ref sig .tc := ⟨.hbm, 68, rfl⟩
abbrev main_v25 : Ref sig .tc := ⟨.hbm, 69, rfl⟩
abbrev main_v26 : Ref sig .tc := ⟨.hbm, 70, rfl⟩
abbrev main_cst_1 : Ref sig .tc := ⟨.hbm, 71, rfl⟩
abbrev main_v27 : Ref sig .tc := ⟨.hbm, 72, rfl⟩
abbrev main_v28 : Ref sig .tc := ⟨.hbm, 73, rfl⟩
abbrev main_cst_2 : Ref sig .tc := ⟨.hbm, 74, rfl⟩
abbrev main_v29 : Ref sig .tc := ⟨.hbm, 75, rfl⟩
abbrev main_v30 : Ref sig .tc := ⟨.hbm, 76, rfl⟩
abbrev main_cst_3 : Ref sig .tc := ⟨.hbm, 77, rfl⟩
abbrev main_v31 : Ref sig .tc := ⟨.hbm, 78, rfl⟩
abbrev main_v32 : Ref sig .tc := ⟨.hbm, 79, rfl⟩
abbrev main_cst_4 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_5 : Ref sig .tc := ⟨.hbm, 84, rfl⟩
abbrev main_v36 : Ref sig .tc := ⟨.hbm, 85, rfl⟩
abbrev main_c_6 : Ref sig .tc := ⟨.hbm, 86, rfl⟩
abbrev main_v37 : Ref sig .tc := ⟨.hbm, 87, rfl⟩
abbrev main_v38 : Ref sig .tc := ⟨.hbm, 88, rfl⟩

abbrev nD : Nat := 1
abbrev τ : Topo := Topo.v7x

variable {F : FTy → Type} [FloatOps F]
-- ==== Proof.Value.lean ====
/-
  What the kernel writes, as plain functions, at any float values and operations: the running arg-max of one channel's
  196 positions, the penalty mask's value at one position, and the masked array. Both printed kernels (as compiled and
  idealized) are proved to write these; they differ only in the constant `β` the distance is scaled by, which is a
  parameter here.
-/
module

public import Idealize.ShloMosaic.PureOps
public import Idealize.ShloMosaic.Lib.Scf
public import Idealize.ShloMosaic.Lib.ValueIdxCore

@[expose] public section

noncomputable section

namespace Cert.Proof

open Idealize.ShloMosaic Idealize.ShloMosaic.ValueIdx

variable {F : FTy → Type} [FloatOps F]

/-- The positions of an array of `R` rows in its column `l`, numbered by naturals; past the last row, zero. -/
def column {R C : ℕ} (X : (⟨2, ![R, C]⟩ : Shape).Idx → F .f32) (l : Fin C) (t : ℕ) : F .f32 :=
  if h : t < R then X (ix2 ⟨t, h⟩ l) else FloatOps.ofBits .f32 0x00000000#32

/-- The running maximum of `col` and the position where it was first met, over the positions below `t`: it starts at
    minus infinity and position 0, and moves only to a strictly greater value. -/
def runMax (col : ℕ → F .f32) : ℕ → F .f32 × BitVec 32
  | 0 => (FloatOps.ofBits .f32 0xFF800000#32, 0#32)
  | t + 1 =>
    (Scalar.select (FloatOps.cmpf .ogt (col t) (runMax col t).1) (col t) (runMax col t).1,
      Scalar.select (FloatOps.cmpf .ogt (col t) (runMax col t).1) (Scf.iv 0#32 1#32 t) (runMax col t).2)

/-- The penalty at row `r` and column `c` of the image when the maximum sits at flat position `mu`: one less `β` times
    the city-block distance between the two places, floored at minus one, times the mask's scale. -/
def penalty (β : F .f32) (mu r c : BitVec 32) : F .f32 :=
  FloatOps.mulf (FloatOps.ofBits .f32 0x3B272F05#32)
    (FloatOps.maximumf
      (FloatOps.subf (FloatOps.ofBits .f32 0x3F800000#32)
        (FloatOps.mulf β
          (FloatOps.addf
            (FloatOps.absf (FloatOps.subf (FloatOps.sitofp .f32 r) (FloatOps.sitofp .f32 (IntOp.divsi .vector mu 14#32))))
            (FloatOps.absf (FloatOps.subf (FloatOps.sitofp .f32 c) (FloatOps.sitofp .f32 (IntOp.remsi .vector mu 14#32)))))))
      (FloatOps.ofBits .f32 0xBF800000#32))

/-- The array the kernel makes of `X`, 196 rows (the 14 by 14 positions of the image, row by row) by any number of
    channels: each value times the penalty at its position, the maximum's place taken over its own channel. -/
def masked {C : ℕ} (β : F .f32) (X : (⟨2, ![196, C]⟩ : Shape).Idx → F .f32) : (⟨2, ![196, C]⟩ : Shape).Idx → F .f32 :=
  fun y => FloatOps.mulf (X y)
    (penalty β (runMax (column X (y 1)) 196).2 (BitVec.ofNat 32 ((y 0).val / 14)) (BitVec.ofNat 32 ((y 0).val % 14)))

/-- The masked array at a channel is decided by that channel alone: two arrays agreeing on a column are masked to the
    same column. -/
theorem masked_congr {C C' : ℕ} (β : F .f32) (X : (⟨2, ![196, C]⟩ : Shape).Idx → F .f32)
    (X' : (⟨2, ![196, C']⟩ : Shape).Idx → F .f32) (l : Fin C) (l' : Fin C')
    (h : ∀ r : Fin 196, X (ix2 r l) = X' (ix2 r l')) (r : Fin 196) :
    masked β X (ix2 r l) = masked β X' (ix2 r l') := by
  have hc : column X l = column X' l' := by
    funext t; unfold column; split
    · exact h _
    · rfl
  show FloatOps.mulf (X (ix2 r l)) (penalty β (runMax (column X l) 196).2 _ _) = _
  rw [h r, hc]; rfl

end Cert.Proof

end
-- ==== Proof.KITile.lean ====
module

public import proofs.«01_k».proof.Defs
public import proofs.«01_k».proof.Proof.Value
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.VecWindow
public import Idealize.ShloMosaic.Lib.ValueLayout
public import Idealize.ShloMosaic.Lib.WordArith.Masks
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_v2
abbrev oLoc (d : Dev nD) : Loc nD τ sig := (SparseCore.T d).loc main_v3

local notation "xV" => (Memref.whole Cert.KernelIdeal.main_v2_scv : Memref Cert.KernelIdeal.sig Kind.scVector Space.hbm Cert.KernelIdeal.S196x512 EltTy.f32)
local notation "oV" => (Memref.whole Cert.KernelIdeal.main_v3_scv : Memref Cert.KernelIdeal.sig Kind.scVector Space.hbm Cert.KernelIdeal.S196x512 EltTy.f32)
local notation "sX" => (Memref.whole Cert.KernelIdeal.cc0_scratch0 : Memref Cert.KernelIdeal.sig Kind.scVector Space.vmem Cert.KernelIdeal.S196x16 EltTy.f32)
local notation "sO" => (Memref.whole Cert.KernelIdeal.cc0_scratch1 : Memref Cert.KernelIdeal.sig Kind.scVector Space.vmem Cert.KernelIdeal.S196x16 EltTy.f32)

variable [FloatOps F] [Named F]

/-- The constant the distance is scaled by, as the program names it. -/
abbrev β : F .f32 := Named.named κ "beta_over_n" 0x3E924925#32

abbrev D : Defs nD τ sig (Elt F) (ΛP (F := F)) := Pipeline.defs pcfgs defs₀

/-! ## Sixteen channels of one row -/

/-- One row of sixteen channels, masked: what every store of the second loop writes. -/
def maskRow (mu : IVec S16 32) (r c : BitVec 32) (v : Vec F S1x16 .f32) : FVec F S1x16 .f32 :=
  shapeCast S1x16 (mulf (shapeCast S16 v shapeCasts_S1x16_S16) fun l => penalty (β (F := F)) (mu l) r c) shapeCasts_S16_S1x16

/-- At channel `l` the masked row is the row's value there times the penalty for that channel's maximum. -/
theorem maskRow_apply (mu : IVec S16 32) (r c : BitVec 32) (v : Vec F S1x16 .f32) (u : Fin 1) (l : Fin 16) :
    maskRow mu r c v (ix2 u l) = FloatOps.mulf (v (ix2 u l)) (penalty β (mu (ix1 l)) r c) := by
  have hu : u.val = 0 := by omega
  have e : ∀ w : FVec F S16 .f32, shapeCast S1x16 w shapeCasts_S16_S1x16 (ix2 u l) = w (ix1 l) := fun w =>
    shapeCast_apply w _ _ _ (by rw [Shape.rowMajor_val_one, Shape.rowMajor_val_two]; show l.val = u.val * 16 + l.val; omega)
  have e' : shapeCast S16 v shapeCasts_S1x16_S16 (ix1 l) = v (ix2 u l) :=
    shapeCast_apply v _ _ _ (by rw [Shape.rowMajor_val_one, Shape.rowMajor_val_two]; show u.val * 16 + l.val = l.val; omega)
  unfold maskRow
  rw [e]
  show FloatOps.mulf (shapeCast S16 v shapeCasts_S1x16_S16 (ix1 l)) _ = _
  rw [e']

/-! ## The fourteen rows one trip of the second loop writes -/

section Rows

variable (mu : IVec S16 32) (g : (sX).view.ty.Contents (Elt F)) (t : Fin k0_t2_loop.trips)

/-- The rectangle of row `j` of image row `t`: one row of sixteen channels. -/
abbrev rowRect (j : Fin 14) : Rect S196x16 :=
  Rect.unit (s := S196x16) (k0_off3 t (BitVec.ofNat 32 j.val)) S1x16.size (k0_off3_inb t j)

/-- What the trip stores at image column `j`. -/
abbrev rowPiece (j : Fin 14) : View.Piece (Elt F) S196x16 .f32 :=
  ⟨rowRect t j, maskRow (F := F) mu (Scf.iv 0#32 1#32 t) (BitVec.ofNat 32 j.val) ((sX).view.readAt (Elt F) (rowRect t j).toLoadRect g)⟩

/-- The trip's fourteen stores, the last one first. -/
abbrev rowPieces : List (View.Piece (Elt F) S196x16 .f32) :=
  [rowPiece mu g t 13, rowPiece mu g t 12, rowPiece mu g t 11, rowPiece mu g t 10, rowPiece mu g t 9, rowPiece mu g t 8, rowPiece mu g t 7,
    rowPiece mu g t 6, rowPiece mu g t 5, rowPiece mu g t 4, rowPiece mu g t 3, rowPiece mu g t 2, rowPiece mu g t 1, rowPiece mu g t 0]

theorem mem_rowPieces (j : Fin 14) : rowPiece mu g t j ∈ rowPieces mu g t := by
  fin_cases j <;> simp [rowPieces]

theorem forall_rowPieces {Q : View.Piece (Elt F) S196x16 .f32 → Prop} (h : ∀ j, Q (rowPiece mu g t j)) :
    ∀ p ∈ rowPieces mu g t, Q p := by
  simp only [rowPieces, List.forall_mem_cons, List.not_mem_nil, false_imp_iff, implies_true, and_true, h, and_self]

/-- Row `j` of image row `t` holds the positions whose row number is `14 t + j`. -/
theorem mem_rowRect (j : Fin 14) (y : S196x16.Idx) : y ∈ (rowRect t j).set ↔ (y 0).val = 14 * t.val + j.val := by
  have h1 : (y 1).val < 16 := (y 1).isLt
  rw [Rect.mem_set_unit, k0_off3_eq]
  constructor
  · intro h
    have := h 0
    simp only [Matrix.cons_val_zero] at this
    omega
  · intro h a
    match a with
    | ⟨0, _⟩ => simp only [Fin.zero_eta, Matrix.cons_val_zero]; omega
    | ⟨1, _⟩ => exact ⟨Nat.zero_le _, by show (y 1).val < 0 + 16; omega⟩

/-- The place of channel `x 1` of row `j` of image row `t`. -/
theorem rowRect_emb (j : Fin 14) (x : S1x16.Idx) :
    (rowRect t j).emb x = ix2 ⟨14 * t.val + j.val, by have := t.isLt; have : k0_t2_loop.trips = 14 := rfl; omega⟩ (x 1) := by
  have h0 : (x 0).val = 0 := by have : (x 0).val < 1 := (x 0).isLt; omega
  refine Rect.emb_eq_of_coords _ _ _ fun a => ?_
  match a with
  | ⟨0, _⟩ =>
    show 14 * t.val + j.val = k0_off3 t (BitVec.ofNat 32 j.val) 0 + 1 * (x 0).val
    rw [k0_off3_eq, h0]; rfl
  | ⟨1, _⟩ =>
    show (x 1).val = k0_off3 t (BitVec.ofNat 32 j.val) 1 + 1 * (x 1).val
    rw [k0_off3_eq]; simp

/-- The masked array of the scratch the channels were fetched to. -/
abbrev G : S196x16.Idx → F .f32 := masked (C := 16) β g

/-- Each store writes the masked array's values at its places, once `mu` holds each channel's place of the maximum. -/
theorem rowPiece_eq (hmu : ∀ l : Fin 16, mu (ix1 l) = (runMax (column (C := 16) g l) 196).2) (j : Fin 14) (x : S1x16.Idx) :
    (rowPiece mu g t j).2 x = G g ((rowPiece mu g t j).1.emb x) := by
  have hj := j.isLt
  obtain ⟨u, l, rfl⟩ : ∃ (u : Fin 1) (l : Fin 16), x = ix2 u l := ⟨x 0, x 1, eq_ix2 x⟩
  have e : (sX).view.readAt (Elt F) (rowRect t j).toLoadRect g (ix2 u l) = g ((rowRect t j).emb (ix2 u l)) := rfl
  rw [rowRect_emb] at e
  refine (maskRow_apply mu _ _ _ u l).trans ?_
  rw [show (rowPiece mu g t j).1.emb (ix2 u l) = _ from rowRect_emb t j (ix2 u l), e, hmu]
  have hr : (14 * t.val + j.val) / 14 = t.val := by omega
  have hc : (14 * t.val + j.val) % 14 = j.val := by omega
  show _ = FloatOps.mulf _ (penalty β _ (BitVec.ofNat 32 ((14 * t.val + j.val) / 14)) (BitVec.ofNat 32 ((14 * t.val + j.val) % 14)))
  rw [hr, hc]
  congr 2
  simp [Scf.iv]

/-- After trip `t` the rows below `14 (t + 1)` hold the masked array, if those below `14 t` did before it. -/
theorem rows_done (hmu : ∀ l : Fin 16, mu (ix1 l) = (runMax (column (C := 16) g l) 196).2) (f : (sO).view.ty.Contents (Elt F))
    (hf : ∀ y : S196x16.Idx, (y 0).val < 14 * t.val → (sO).view.read (Elt F) f y = G g y) :
    ∀ y : S196x16.Idx, (y 0).val < 14 * (t.val + 1) →
      (sO).view.read (Elt F) ((sO).view.writes (Elt F) f (rowPieces mu g t)) y = G g y := by
  intro y hy
  by_cases h : (y 0).val < 14 * t.val
  · rw [View.read_writes_apply_of_forall_not_mem _ _ y _ (forall_rowPieces mu g t fun j => ?_)]
    · exact hf y h
    · rw [show (rowPiece mu g t j).1 = rowRect t j from rfl, mem_rowRect]; omega
  · refine View.read_writes_apply_of_pieces _ _ (G g) _ (forall_rowPieces mu g t fun j x => rowPiece_eq mu g t hmu j x) y
      ⟨_, mem_rowPieces mu g t ⟨(y 0).val - 14 * t.val, by omega⟩, ?_⟩
    exact (mem_rowRect t _ y).2 (by show _ = 14 * t.val + ((y 0).val - 14 * t.val); omega)

end Rows

section Region
variable (d : Dev nD) (L : grid0.Coords)

abbrev cV (L : grid0.Coords) : Fin τ.nSC := (L 0).castLE hcore0
abbrev jV (L : grid0.Coords) : Fin τ.nSub := (L 1).castLE hsub0

theorem region₂ (mu : IVec S16 32) (g : Buf (Elt F) ((V d (cV L) (jV L)).loc cc0_scratch0)) (f : Buf (Elt F) ((V d (cV L) (jV L)).loc cc0_scratch1))
    (t : Fin k0_t2_loop.trips) (acc : BitVec 32)
    (hmu : ∀ l : Fin 16, mu (ix1 l) = (runMax (column (C := 16) g l) 196).2)
    (hf : ∀ y : S196x16.Idx, (y 0).val < 14 * t.val → (sO).view.read (Elt F) f y = G g y) :
    (iprop(((sX).view.loc (V d (cV L) (jV L)) ↦{fullShare} g) ∗ ((sO).view.loc (V d (cV L) (jV L)) ↦{fullShare} f)) : sProp 𝕄)
      ⊢ wp frame (wpE (defs₀ (F := F)) 𝒱₀ (V d (cV L) (jV L)) none) Set.univ
          (k0_t2_body L xV (Memref.isWhole_whole _) oV (Memref.isWhole_whole _) sX (Memref.isWhole_whole _) sO (Memref.isWhole_whole _)
            cc0_scratch2 cc0_scratch3 mu t acc)
          fun _ => iprop(((sX).view.loc (V d (cV L) (jV L)) ↦{fullShare} g)
            ∗ ∃ f', ⌜∀ y : S196x16.Idx, (y 0).val < 14 * (t.val + 1) → (sO).view.read (Elt F) f' y = G g y⌝ ∗ ((sO).view.loc (V d (cV L) (jV L)) ↦{fullShare} f')) := by
  unfold k0_t2_body

  iintro ⟨Hx, Ho⟩
  sl_exec
  sl_step
  isplitl [Hx]; · iexact Hx
  iexists _; isplitr
  swap; · iexact Ho
  ipureintro
  exact rows_done mu g t hmu f hf

/-! ## One trip of the first loop -/

/-- The running maxima and their places after `k` rows, sixteen channels at once. -/
def AccIs (g : (sX).view.ty.Contents (Elt F)) (k : ℕ) (acc : FVec F S16 .f32 × IVec S16 32) : Prop :=
  ∀ l : Fin 16, acc.1 (ix1 l) = (runMax (column (C := 16) g l) k).1 ∧ acc.2 (ix1 l) = (runMax (column (C := 16) g l) k).2

/-- What the loop starts from is the state before any row. -/
theorem accIs_zero (g : (sX).view.ty.Contents (Elt F)) : AccIs g 0 (k0_pay1 (F := F), k0_pay2) := fun _ => ⟨rfl, rfl⟩

/-- A row of one by sixteen read as sixteen. -/
theorem castRow (v : Vec F S1x16 .f32) (l : Fin 16) : (shapeCast S16 v shapeCasts_S1x16_S16 : FVec F S16 .f32) (ix1 l) = v (ix2 (0 : Fin 1) l) :=
  shapeCast_apply v _ _ _ (by rw [Shape.rowMajor_val_one, Shape.rowMajor_val_two]; show 0 * 16 + l.val = l.val; omega)

/-- Row `t` of the fetched channels, as the trip loads it. -/
theorem readRow (g : (sX).view.ty.Contents (Elt F)) (t : Fin k0_t1_loop.trips) (l : Fin 16) :
    (sX).view.readAt (Elt F) (Rect.unit (s := S196x16) (k0_off2 t) S1x16.size (k0_off2_inb t)).toLoadRect g (ix2 (0 : Fin 1) l)
      = column (C := 16) g l t.val := by
  have ht : t.val < 196 := t.isLt
  have e : (Rect.unit (s := S196x16) (k0_off2 t) S1x16.size (k0_off2_inb t)).emb (ix2 (0 : Fin 1) l) = ix2 ⟨t.val, ht⟩ l := by
    refine Rect.emb_eq_of_coords _ _ _ fun a => ?_
    match a with
    | ⟨0, _⟩ => show t.val = k0_off2 t 0 + 1 * 0; rw [k0_off2_eq]; rfl
    | ⟨1, _⟩ => show l.val = k0_off2 t 1 + 1 * l.val; rw [k0_off2_eq]; simp
  show g ((Rect.unit (s := S196x16) (k0_off2 t) S1x16.size (k0_off2_inb t)).emb (ix2 (0 : Fin 1) l)) = _
  rw [e]; unfold column; rw [dif_pos ht]

/-- The trip takes the state after `t` rows to the state after `t + 1`. -/
theorem accIs_succ (g : (sX).view.ty.Contents (Elt F)) (t : Fin k0_t1_loop.trips) (a : FVec F S16 .f32) (i : IVec S16 32)
    (h : AccIs g t.val (a, i)) (v : Vec F S1x16 .f32) (hv : ∀ l, v (ix2 (0 : Fin 1) l) = column (C := 16) g l t.val) :
    AccIs g (t.val + 1) (k0_pay5 a v, k0_pay6 t a i v) := by
  intro l
  obtain ⟨h1, h2⟩ := h l
  dsimp only at h1 h2
  have hr := (castRow v l).trans (hv l)
  constructor
  · show Scalar.select (FloatOps.cmpf .ogt ((shapeCast S16 v shapeCasts_S1x16_S16 : FVec F S16 .f32) (ix1 l)) (a (ix1 l)))
      ((shapeCast S16 v shapeCasts_S1x16_S16 : FVec F S16 .f32) (ix1 l)) (a (ix1 l)) = _
    rw [hr, h1]; rfl
  · show Scalar.select (FloatOps.cmpf .ogt ((shapeCast S16 v shapeCasts_S1x16_S16 : FVec F S16 .f32) (ix1 l)) (a (ix1 l)))
      (Scf.iv 0#32 1#32 t.val) (i (ix1 l)) = _
    rw [hr, h1, h2]; rfl

/-! ## The task's column block and its own state -/

/-- The task's sixteen columns, all 196 rows. -/
abbrev colRect (L : grid0.Coords) : Rect S196x512 := Rect.unit (s := S196x512) (k0_off1 L) S196x16.size (k0_off1_inb L)
abbrev colSet (L : grid0.Coords) : Finset S196x512.Idx := ((xV).view.slice (colRect L)).set
abbrev xCol (L : grid0.Coords) : Memref sig .scVector .hbm S196x16 .f32 := (xV).slice (colRect L) (fun _ => rfl)
abbrev oCol (L : grid0.Coords) : Memref sig .scVector .hbm S196x16 .f32 := (oV).slice (colRect L) (fun _ => rfl)

abbrev xPart (d : Dev nD) (L : grid0.Coords) (f : Buf (Elt F) (xLoc d)) : sProp 𝕄 := xLoc d ↦[colSet L]{fullShare} f
abbrev oPart (d : Dev nD) (L : grid0.Coords) (f : Buf (Elt F) (oLoc d)) : sProp 𝕄 := oLoc d ↦[colSet L]{fullShare} f

/-- The masked array of the kernel's whole operand. -/
abbrev R (d : Dev nD) (X : Buf (Elt F) (xLoc d)) : Buf (Elt F) (oLoc d) := masked (C := 512) β X

/-- The place of row `r`, channel `l` of the task's block in the whole array. -/
theorem colRect_emb (r : Fin 196) (l : Fin 16) :
    (colRect L).emb (ix2 r l) = ix2 r ⟨32 * (L 1).val + 16 * (L 0).val + l.val, by
      have h1 : (L 1).val < 16 := (L 1).isLt; have h0 : (L 0).val < 2 := (L 0).isLt; omega⟩ := by
  refine Rect.emb_eq_of_coords _ _ _ fun a => ?_
  match a with
  | ⟨0, _⟩ => show r.val = k0_off1 L 0 + 1 * r.val; rw [k0_off1_eq]; simp
  | ⟨1, _⟩ => show _ = k0_off1 L 1 + 1 * l.val; rw [k0_off1_eq]; simp

theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
theorem pts_sO (f : Buf (Elt F) ((V d (cV L) (jV L)).loc cc0_scratch1)) :
    ((sO).view.loc (V d (cV L) (jV L)) ↦{fullShare} f : sProp 𝕄) = (V d (cV L) (jV L)).loc cc0_scratch1 ↦{fullShare} f := rfl

abbrev aCell (d : Dev nD) (L : grid0.Coords) : GSem nD τ sig := (V d (cV L) (jV L), .dma cc0_scratch2.sem)
abbrev bCell (d : Dev nD) (L : grid0.Coords) : GSem nD τ sig := (V d (cV L) (jV L), .dma cc0_scratch3.sem)

/-- The subcore's own counters: the two transfers' at zero, and the rest. -/
theorem ownSems0_V :
    (ownSems0 (V d (cV L) (jV L)) : sProp 𝕄)
      = iprop(semVal (aCell d L) 0 ∗ semVal (bCell d L) 0
          ∗ bigSep (((ownCells (V d (cV L) (jV L))).erase (aCell d L)).erase (bCell d L)) fun g => semVal g 0) := by
  unfold SparseCore.Cfg.ownSems0
  rw [SparseCore.bigSep_erase' ((mem_ownCells (g := aCell d L)).mpr ⟨rfl, by
      show (SemLoc.dma cc0_scratch2.sem : SemLoc sig).isScoped .scVector = true; decide⟩),
    SparseCore.bigSep_erase' (Finset.mem_erase.mpr ⟨by simp [aCell, bCell]; decide, (mem_ownCells (g := bCell d L)).mpr ⟨rfl, by
      show (SemLoc.dma cc0_scratch3.sem : SemLoc sig).isScoped .scVector = true; decide⟩⟩)]

/-- The subcore's own buffers: the two scratches at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The first loop's invariant: the fetched channels stand, and what the loop carries is the state after `k` rows. -/
def inv₁ (g : Buf (Elt F) ((V d (cV L) (jV L)).loc cc0_scratch0)) (k : ℕ) (acc : FVec F S16 .f32 × IVec S16 32) : sProp 𝕄 :=
  iprop(((sX).view.loc (V d (cV L) (jV L)) ↦{fullShare} g) ∗ ⌜AccIs g k acc⌝)

/-- The second loop's invariant: the fetched channels stand, and the first `14 k` rows of the result are masked. -/
def inv₂ (g : Buf (Elt F) ((V d (cV L) (jV L)).loc cc0_scratch0)) (k : ℕ) (_ : BitVec 32) : sProp 𝕄 :=
  iprop(((sX).view.loc (V d (cV L) (jV L)) ↦{fullShare} g)
    ∗ ∃ f, ⌜∀ y : S196x16.Idx, (y 0).val < 14 * k → (sO).view.read (Elt F) f y = G g y⌝ ∗ ((sO).view.loc (V d (cV L) (jV L)) ↦{fullShare} f))

/-- The task's columns are those of its rectangle. -/
theorem colSet_eq : colSet L = (colRect L).set := by
  show ((View.whole (main_v2_scv : Ref sig .scVector)).slice (colRect L)).set = _
  rw [View.set_slice]; exact Finset.map_refl

/-- The block written out, once the whole second scratch is masked, is the masked array's block of columns. -/
theorem oCol_done (X : Buf (Elt F) (xLoc d)) (Y : Buf (Elt F) (oLoc d)) (g : (sX).view.ty.Contents (Elt F))
    (hgX : ∀ (r : Fin 196) (l : Fin 16), g (ix2 r l) = X ((colRect L).emb (ix2 r l))) (f : (sO).view.ty.Contents (Elt F))
    (hf : ∀ y : S196x16.Idx, (y 0).val < 14 * 14 → (sO).view.read (Elt F) f y = G g y) :
    (((oCol L).view.loc (V d (cV L) (jV L)) ↦[(oCol L).view.set]{fullShare}
        (oCol L).view.writes (Elt F) Y [⟨Rect.whole S196x16, (sO).view.read (Elt F) f⟩] : sProp 𝕄)) = oPart d L (R d X) := by
  refine pointsTo_congr fun i hi => ?_
  replace hi : i ∈ colSet L := hi
  rw [colSet_eq] at hi
  obtain ⟨y, hy⟩ := LoadRect.exists_idx_of_mem (colRect L).toLoadRect hi
  obtain rfl : (colRect L).emb y = i := hy
  obtain ⟨r, l, rfl⟩ : ∃ (r : Fin 196) (l : Fin 16), y = ix2 r l := ⟨y 0, y 1, eq_ix2 y⟩
  refine (congrFun (View.read_writes_whole (oCol L).view Y ((sO).view.read (Elt F) f)) (ix2 r l)).trans ?_
  rw [hf (ix2 r l) (by show r.val < 196; exact r.isLt)]
  show masked (C := 16) β g (ix2 r l) = masked (C := 512) β X ((colRect L).emb (ix2 r l))
  rw [colRect_emb]
  refine masked_congr β g X l _ (fun r => ?_) r
  rw [hgX, colRect_emb]

/-- One vector subcore's task: it fetches its sixteen columns of `x`, finds each channel's maximum and its place, masks the
    fetched block row by row into the second scratch, and writes that block out: its columns of `x` unchanged, its columns of
    `o` at the masked array's. -/
theorem tile_body (hF : (K (F := F)).Facts) (X : Buf (Elt F) (xLoc d)) (Y : Buf (Elt F) (oLoc d))
    (O : CellTallies nD τ sig (HIx 1)) (W : Waits sig (HIx 1)) (hO : ∀ g, O g none = 0) :
    iprop(levAts (K (F := F)).L (K (F := F)).lev ∗ emp
        ∗ (xPart d L X ∗ oPart d L Y)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) sX (Memref.isWhole_whole _) sO (Memref.isWhole_whole _)
            cc0_scratch2 cc0_scratch3)
          fun _ => iprop((xPart d L X ∗ oPart d L (R d X))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (show xPart d L X ⊢ ((xCol L).view.loc (V d (cV L) (jV L)) ↦[(xCol L).view.set]{fullShare} X : sProp 𝕄) from .rfl) $$ Hx
  ihave Ho' := (show oPart d L Y ⊢ ((oCol L).view.loc (V d (cV L) (jV L)) ↦[(oCol L).view.set]{fullShare} Y : sProp 𝕄) from .rfl) $$ Ho
  ihave Hs' := (Entails.of_eq (pts_sX (F := F) d L _).symm) $$ Hs
  ihave Hc' := (Entails.of_eq (pts_sO (F := F) d L _).symm) $$ Hc
  rw [show cc0__sc_body (F := F) = _ from cc0__sc_body_eq_skeleton]; unfold cc0__sc_body_skel
  sl_exec (disch := exact View.amount_pos _ _ (show 0 < S196x16.numel by decide))
  -- what was fetched, by column
  generalize hg : View.write (Elt F) (sX).view fs (tile_body.sl.dma0 d L X) Finset.univ = g
  have hgX : ∀ (r : Fin 196) (l : Fin 16), g (ix2 r l) = X ((colRect L).emb (ix2 r l)) := by
    intro r l; rw [← hg]; exact congrFun (View.write_whole_univ (Val := Elt F) cc0_scratch0 fs _) (ix2 r l)
  sl_for (inv₁ d L g) $$ [Hs']
  case region =>
    intro k acc
    obtain ⟨a, i⟩ := acc
    unfold inv₁
    iintro ⟨Hs, %hacc⟩
    sl_exec
    sl_step
    isplitl [Hs]; · iexact Hs
    ipureintro
    exact accIs_succ g k a i hacc _ (readRow g k)
  · unfold inv₁
    isplitl [Hs']; · iexact Hs'
    ipureintro; exact accIs_zero g
  iintro %acc HI
  obtain ⟨a, mu⟩ := acc
  unfold inv₁
  icases HI with ⟨Hs, %hacc⟩
  have hmu : ∀ l : Fin 16, mu (ix1 l) = (runMax (column (C := 16) g l) 196).2 := fun l => (hacc l).2
  sl_exec
  sl_for (inv₂ d L g) $$ [Hs Hc']
  case region =>
    intro k acc
    unfold inv₂
    iintro ⟨Hs, %f, %hf, Hc⟩
    iapply (region₂ d L mu g f k acc hmu hf) $$ [Hs Hc]
    isplitl [Hs] <;> iassumption
  · unfold inv₂
    isplitl [Hs]; · iexact Hs
    iexists fc; isplitr
    · ipureintro; intro y hy; omega
    · iexact Hc'
  iintro %acc HI
  unfold inv₂
  icases HI with ⟨Hs, %f, %hf, Hc⟩
  sl_exec (disch := exact View.amount_pos _ _ (show 0 < S196x16.numel by decide))
  sl_step
  isplitl [Hx' Ho']
  · isplitl [Hx']; · iexact Hx'
    iapply (Entails.of_eq (oCol_done d L X Y g hgX f hf)); iexact Ho'
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Region

end Cert.Proof.Ideal

end
-- ==== Proof.KIRun.lean ====
module

public import proofs.«01_k».proof.Proof.KITile
public import Idealize.ShloMosaic.Lib.Pipeline.Frame

@[expose] public section

noncomputable section

namespace Cert.Proof.Ideal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq wp_seq)
open Idealize.ShloMosaic.Pipeline (ucRefs unscopedBufs_held sub_ucRefs)
open Idealize.ShloMosaic.Tactic

variable {F : FTy → Type}

local notation "𝕄" => MT nD τ sig (HIx 1) (Elt F) ℕ UU ℕ

local notation "xV" => (Memref.whole Cert.KernelIdeal.main_v2_scv : Memref Cert.KernelIdeal.sig Kind.scVector Space.hbm Cert.KernelIdeal.S196x512 EltTy.f32)
local notation "oV" => (Memref.whole Cert.KernelIdeal.main_v3_scv : Memref Cert.KernelIdeal.sig Kind.scVector Space.hbm Cert.KernelIdeal.S196x512 EltTy.f32)
local notation "sX" => (Memref.whole Cert.KernelIdeal.cc0_scratch0 : Memref Cert.KernelIdeal.sig Kind.scVector Space.vmem Cert.KernelIdeal.S196x16 EltTy.f32)
local notation "sO" => (Memref.whole Cert.KernelIdeal.cc0_scratch1 : Memref Cert.KernelIdeal.sig Kind.scVector Space.vmem Cert.KernelIdeal.S196x16 EltTy.f32)

variable [FloatOps F] [Named F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations around the call -/

/-- Batch element 0 of the argument, as 196 rows of 512 channels. -/
abbrev opsPre : List (HloOp τ sig (Elt F)) :=
  [StableHlo.unary main_arg0 main_v0 ((extractStridedSlice S1x14x14x512 ![0, 0, 0, 0] · slices_S8x14x14x512_S1x14x14x512_0_0_0_0) : (⟨S8x14x14x512, .f32⟩ : BufTy).Contents (Elt F) → (⟨S1x14x14x512, .f32⟩ : BufTy).Contents (Elt F)),
    StableHlo.reshape main_v0 main_v1 (rfl : (.f32 : EltTy) = .f32) shapeCasts_S1x14x14x512_S14x14x512,
    StableHlo.reshape main_v1 main_v2 (rfl : (.f32 : EltTy) = .f32) shapeCasts_S14x14x512_S196x512]

/-- The kernel's result put at batch element 0 of an array of zeros. -/
abbrev opsPost : List (HloOp τ sig (Elt F)) :=
  [StableHlo.nullary main_cst (constant S_ .f32 0x00000000#32),
    StableHlo.unary main_cst main_v4 (broadcastInDim S8x196x512 ![] bcast_S_S8x196x512 : (⟨S_, .f32⟩ : BufTy).Contents (Elt F) → (⟨S8x196x512, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.ternary main_v4 main_v5 main_v3 main_v6 ((fun x i u => Host.scatter scatter_S8x196x512_S1_S196x512_01_0_0_0 (fun _ b => b) x i u) : (⟨S8x196x512, .f32⟩ : BufTy).Contents (Elt F) → (⟨S1, .i32⟩ : BufTy).Contents (Elt F) → (⟨S196x512, .f32⟩ : BufTy).Contents (Elt F) → (⟨S8x196x512, .f32⟩ : BufTy).Contents (Elt F)),
    StableHlo.reshape main_v6 main_v7 (rfl : (.f32 : EltTy) = .f32) shapeCasts_S8x196x512_S8x14x14x512]

/-- @main is those operations around the one call. -/
theorem main_eq (d : Dev nD) : main (F := F) d = (seq opsPre >>= fun _ => (sc (F := F)).run d 0 >>= fun _ => seq opsPost >>= fun _ => pure ⟨⟩) := rfl

theorem pre_sub : ∀ op ∈ opsPre (F := F), op.bufs ⊆ ucRefs τ sig := fun op h => sub_ucRefs op (by
  revert op; simp only [List.forall_mem_cons, List.not_mem_nil, false_imp_iff, implies_true, and_true]
  simp only [StableHlo.unary_bufs_sub, StableHlo.reshape_bufs_sub, and_self])
theorem pre_fresh : ∀ op ∈ opsPre (F := F), op.fresh = ∅ := List.forall_iff_forall_mem.mp (StableHlo.forall_fresh_of_map rfl)
theorem post_sub : ∀ op ∈ opsPost (F := F), op.bufs ⊆ ucRefs τ sig := fun op h => sub_ucRefs op (by
  revert op; simp only [List.forall_mem_cons, List.not_mem_nil, false_imp_iff, implies_true, and_true]
  simp only [StableHlo.unary_bufs_sub, StableHlo.reshape_bufs_sub, StableHlo.nullary_bufs_sub, StableHlo.ternary_bufs_sub, and_self])
theorem post_fresh : ∀ op ∈ opsPost (F := F), op.fresh = ∅ := List.forall_iff_forall_mem.mp (StableHlo.forall_fresh_of_map rfl)

/-! ## The contents along @main -/

variable (m : (ℓ : Loc nD τ sig) → Buf (Elt F) ℓ) (ρ : Dev nD → PrngReg)

abbrev x' : DevRef τ sig := Proc.devRef .tc (main_v2 : Ref sig .tc)
abbrev o' : DevRef τ sig := Proc.devRef .tc (main_v3 : Ref sig .tc)
abbrev a' : DevRef τ sig := Proc.devRef .tc (main_arg0 : Ref sig .tc)
abbrev r' : DevRef τ sig := Proc.devRef .tc (main_v7 : Ref sig .tc)
abbrev aLoc (d : Dev nD) : Loc nD τ sig := (SparseCore.T d).loc main_arg0
abbrev rLoc (d : Dev nD) : Loc nD τ sig := (SparseCore.T d).loc main_v7

/-- The contents at launch, before the call, after it (`o` at the masked array), and at the end. -/
def V0 (d : Dev nD) : Valuation τ sig (Elt F) := fun b => m (d, b)
def V1 (d : Dev nD) : Valuation τ sig (Elt F) := after opsPre (V0 m d)
def X (d : Dev nD) : Buf (Elt F) (xLoc d) := V1 m d x'
def Y (d : Dev nD) : Buf (Elt F) (oLoc d) := V1 m d o'
def V2 (d : Dev nD) : Valuation τ sig (Elt F) := Function.update (V1 m d) o' (R d (X m d))
def V3 (d : Dev nD) : Valuation τ sig (Elt F) := after opsPost (V2 m d)

/-- What the kernel reads: batch element 0, its positions in one line. -/
theorem X_eq (d : Dev nD) : X m d = shapeCast S196x512 (shapeCast S14x14x512 (extractStridedSlice S1x14x14x512 ![0, 0, 0, 0] (m (aLoc d))
    slices_S8x14x14x512_S1x14x14x512_0_0_0_0) shapeCasts_S1x14x14x512_S14x14x512) shapeCasts_S14x14x512_S196x512 := by
  unfold X V1 V0 opsPre x'
  after_results_simp
  rfl

/-- The result of @main, from the masked array. -/
def Rv (d : Dev nD) : Buf (Elt F) (rLoc d) :=
  shapeCast S8x14x14x512 (Host.scatter scatter_S8x196x512_S1_S196x512_01_0_0_0 (fun _ b => b)
    (broadcastInDim S8x196x512 ![] bcast_S_S8x196x512 (constant (F := F) S_ .f32 0x00000000#32))
    (broadcastInDim S1 ![] bcast_S_S1 (constantI S_ 32 0#32)) (R d (X m d))) shapeCasts_S8x196x512_S8x14x14x512

theorem V3_r (d : Dev nD) : V3 m d r' = Rv m d := by
  have h : V2 m d o' = R d (X m d) := Function.update_self _ _ _
  unfold V3 opsPost r'
  after_results_simp
  rw [h]
  rfl

theorem V3_a (d : Dev nD) : V3 m d a' = m (aLoc d) := by
  unfold V3
  rw [StableHlo.after_of_writes_sub (W := [main_cst, main_v4, main_c, main_v5, main_v6, main_v7]) opsPost _
    (StableHlo.forall_writes_sub_of_map rfl) (by decide)]
  refine (Function.update_of_ne (show a' ≠ o' by decide) _ _).trans ?_
  unfold V1
  rw [StableHlo.after_of_writes_sub (W := [main_v0, main_v1, main_v2]) opsPre _ (StableHlo.forall_writes_sub_of_map rfl) (by decide)]
  rfl

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = grid0.bound 0 := rfl
theorem nSub_zero : (K (F := F)).nSub 0 = grid0.bound 1 := rfl

/-- The grid point of task `i` on SparseCore `c`. -/
abbrev Lc (c : Fin ((K (F := F)).nCore 0)) (i : Fin ((K (F := F)).nSub 0)) : grid0.Coords :=
  coordsV (Fin.cast nCore_zero c) (Fin.cast nSub_zero i)

/-- A task's columns of `x` and of `o`, before it runs and after. -/
abbrev goP (d : Dev nD) (c : Fin ((K (F := F)).nCore 0)) (i : Fin ((K (F := F)).nSub 0)) : sProp 𝕄 :=
  iprop(xPart d (Lc (F := F) c i) (X m d) ∗ oPart d (Lc (F := F) c i) (Y m d))
abbrev tdP (d : Dev nD) (c : Fin ((K (F := F)).nCore 0)) (i : Fin ((K (F := F)).nSub 0)) : sProp 𝕄 :=
  iprop(xPart d (Lc (F := F) c i) (X m d) ∗ oPart d (Lc (F := F) c i) (R d (X m d)))

/-- Each SparseCore takes its sixteen tasks' columns and brings them back, the columns of `o` masked; each task takes and
    brings back its own. -/
def P : (K (F := F)).Pay (nD := nD) (Val := Elt F) (Name := ℕ) (U := UU) where
  st := fun q d c => match q with | 0 => bigSep Finset.univ fun i => goP m d c i
  dn := fun q d c => match q with | 0 => bigSep Finset.univ fun i => tdP m d c i
  go := fun q d c i => match q with | 0 => goP m d c i
  td := fun q d c i => match q with | 0 => tdP m d c i
  x := fun _ _ => iprop(emp)

instance P_storable : (P (F := F) m).IsStorable where
  st q d c := match q with
    | 0 => (inferInstance : BI.Storable (upEmb : UEmb _ 𝕄) (bigSep Finset.univ fun i => goP m d c i))
  dn q d c := match q with
    | 0 => (inferInstance : BI.Storable (upEmb : UEmb _ 𝕄) (bigSep Finset.univ fun i => tdP m d c i))
  go q d c i := match q with
    | 0 => (inferInstance : BI.Storable (upEmb : UEmb _ 𝕄) (goP m d c i))
  td q d c i := match q with
    | 0 => (inferInstance : BI.Storable (upEmb : UEmb _ 𝕄) (tdP m d c i))

/-! ## The tasks' obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) sX (Memref.isWhole_whole _) sO (Memref.isWhole_whole _)
          cc0_scratch2 cc0_scratch3) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (X m d) (Y m d) O W hO

theorem vecSplit : (K (F := F)).VecSplit' (P m) 0 := by
  intro d c
  show (bigSep Finset.univ fun i => goP m d c i) ⊢ |={Set.univ}=> iprop(
      (bigSep Finset.univ fun i => goP m d c i) ∗ ((bigSep Finset.univ fun i => tdP m d c i) -∗ bigSep Finset.univ fun i => tdP m d c i))
  iintro H; imodintro
  isplitl [H]; · iexact H
  iintro H; iexact H

/-! ## The columns split and join -/

/-- A place lies in a task's columns when its channel is one of the task's sixteen. -/
theorem mem_colSet (L : grid0.Coords) (y : S196x512.Idx) :
    y ∈ colSet L ↔ 32 * (L 1).val + 16 * (L 0).val ≤ (y 1).val ∧ (y 1).val < 32 * (L 1).val + 16 * (L 0).val + 16 := by
  rw [colSet_eq, Rect.mem_set_unit, k0_off1_eq]
  have h0 : (y 0).val < 196 := (y 0).isLt
  constructor
  · exact fun h => h 1
  · intro h a
    match a with
    | ⟨0, _⟩ => exact ⟨Nat.zero_le _, by show (y 0).val < 0 + 196; omega⟩
    | ⟨1, _⟩ => exact h

theorem cols_disjoint (c : Fin ((K (F := F)).nCore 0)) : ∀ i ∈ (Finset.univ : Finset (Fin ((K (F := F)).nSub 0))),
    ∀ j ∈ (Finset.univ : Finset (Fin ((K (F := F)).nSub 0))), i ≠ j → Disjoint (colSet (Lc (F := F) c i)) (colSet (Lc (F := F) c j)) := by
  intro i _ j _ h
  refine Finset.disjoint_left.mpr fun y hi hj => h (Fin.ext ?_)
  rw [mem_colSet] at hi hj
  have hi : 32 * i.val + 16 * c.val ≤ (y 1).val ∧ (y 1).val < 32 * i.val + 16 * c.val + 16 := hi
  have hj : 32 * j.val + 16 * c.val ≤ (y 1).val ∧ (y 1).val < 32 * j.val + 16 * c.val + 16 := hj
  omega

/-- The columns of one SparseCore's tasks. -/
abbrev coreSet (c : Fin ((K (F := F)).nCore 0)) : Finset S196x512.Idx :=
  (Finset.univ : Finset (Fin ((K (F := F)).nSub 0))).biUnion fun i => colSet (Lc (F := F) c i)

theorem cores_disjoint : ∀ c ∈ (Finset.univ : Finset (Fin ((K (F := F)).nCore 0))),
    ∀ c' ∈ (Finset.univ : Finset (Fin ((K (F := F)).nCore 0))), c ≠ c' → Disjoint (coreSet (F := F) c) (coreSet (F := F) c') := by
  intro c _ c' _ h
  refine Finset.disjoint_left.mpr fun y hi hj => h (Fin.ext ?_)
  obtain ⟨i, -, hi⟩ := Finset.mem_biUnion.mp hi
  obtain ⟨j, -, hj⟩ := Finset.mem_biUnion.mp hj
  rw [mem_colSet] at hi hj
  have hi : 32 * i.val + 16 * c.val ≤ (y 1).val ∧ (y 1).val < 32 * i.val + 16 * c.val + 16 := hi
  have hj : 32 * j.val + 16 * c'.val ≤ (y 1).val ∧ (y 1).val < 32 * j.val + 16 * c'.val + 16 := hj
  have h1 : c.val < 2 := c.isLt
  have h2 : c'.val < 2 := c'.isLt
  omega

theorem cores_cover : (Finset.univ : Finset (Fin ((K (F := F)).nCore 0))).biUnion (coreSet (F := F)) = Finset.univ := by
  refine Finset.eq_univ_of_forall fun y => ?_
  have h1 : (y 1).val < 512 := (y 1).isLt
  have hc : (y 1).val % 32 / 16 < (K (F := F)).nCore 0 := by show _ < 2; omega
  have hi : (y 1).val / 32 < (K (F := F)).nSub 0 := by show _ < 16; omega
  refine Finset.mem_biUnion.mpr ⟨⟨_, hc⟩, Finset.mem_univ _, Finset.mem_biUnion.mpr ⟨⟨_, hi⟩, Finset.mem_univ _, ?_⟩⟩
  rw [mem_colSet]
  show 32 * ((y 1).val / 32) + 16 * ((y 1).val % 32 / 16) ≤ (y 1).val ∧ (y 1).val < 32 * ((y 1).val / 32) + 16 * ((y 1).val % 32 / 16) + 16
  omega

theorem x_cols (d : Dev nD) (f : Buf (Elt F) (xLoc d)) :
    (xLoc d ↦{fullShare} f : sProp 𝕄)
      = bigSep Finset.univ fun c : Fin ((K (F := F)).nCore 0) => bigSep Finset.univ fun i => xPart d (Lc (F := F) c i) f := by
  refine Eq.trans ?_ ((pointsTo_biUnion Finset.univ (ℓ := xLoc d) (coreSet (F := F)) cores_disjoint).trans
    (bigSep_congr fun c _ => pointsTo_biUnion Finset.univ (ℓ := xLoc d) (fun i => colSet (Lc (F := F) c i)) (cols_disjoint c)))
  rw [cores_cover]

theorem o_cols (d : Dev nD) (f : Buf (Elt F) (oLoc d)) :
    (oLoc d ↦{fullShare} f : sProp 𝕄)
      = bigSep Finset.univ fun c : Fin ((K (F := F)).nCore 0) => bigSep Finset.univ fun i => oPart d (Lc (F := F) c i) f := by
  refine Eq.trans ?_ ((pointsTo_biUnion Finset.univ (ℓ := oLoc d) (coreSet (F := F)) cores_disjoint).trans
    (bigSep_congr fun c _ => pointsTo_biUnion Finset.univ (ℓ := oLoc d) (fun i => colSet (Lc (F := F) c i)) (cols_disjoint c)))
  rw [cores_cover]

theorem st0_eq (d : Dev nD) :
    (bigSep Finset.univ fun c : Fin ((K (F := F)).nCore 0) => (P m).st 0 d c) = iprop((xLoc d ↦{fullShare} X m d) ∗ oLoc d ↦{fullShare} Y m d) := by
  rw [x_cols, o_cols, ← bigSep_sep']
  exact bigSep_congr fun c _ => (show _ = _ from bigSep_sep' Finset.univ (fun i => xPart d (Lc (F := F) c i) (X m d)) fun i => oPart d (Lc (F := F) c i) (Y m d))
theorem dn0_eq (d : Dev nD) :
    (bigSep Finset.univ fun c : Fin ((K (F := F)).nCore 0) => (P m).dn 0 d c) = iprop((xLoc d ↦{fullShare} X m d) ∗ oLoc d ↦{fullShare} R d (X m d)) := by
  rw [x_cols, o_cols, ← bigSep_sep']
  exact bigSep_congr fun c _ => (show _ = _ from bigSep_sep' Finset.univ (fun i => xPart d (Lc (F := F) c i) (X m d)) fun i => oPart d (Lc (F := F) c i) (R d (X m d)))

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The two arrays the call takes, and the two the claims read. -/
abbrev S2 : Finset (DevRef τ sig) := {x', o'}
abbrev S2' : Finset (DevRef τ sig) := {a', r'}

theorem S2_sub : S2 ⊆ ucRefs τ sig := by decide
theorem S2'_sub : S2' ⊆ ucRefs τ sig := by decide

theorem held_S2 (d : Dev nD) (W : Valuation τ sig (Elt F)) :
    (held (T d) S2 W : sProp 𝕄) = iprop((xLoc d ↦{fullShare} W x') ∗ oLoc d ↦{fullShare} W o') := by
  unfold held S2; rw [SparseCore.bigSep_insert' (by decide), bigSep_singleton]
theorem held_S2' (d : Dev nD) (W : Valuation τ sig (Elt F)) :
    (held (T d) S2' W : sProp 𝕄) = iprop((aLoc d ↦{fullShare} W a') ∗ rLoc d ↦{fullShare} W r') := by
  unfold held S2'; rw [SparseCore.bigSep_insert' (by decide), bigSep_singleton]

/-- The unscoped arrays before the call: the two it takes, and the rest. -/
theorem held_V1 (d : Dev nD) : (held (T d) (ucRefs τ sig) (V1 m d) : sProp 𝕄)
    = iprop(((xLoc d ↦{fullShare} X m d) ∗ oLoc d ↦{fullShare} Y m d) ∗ held (T d) (ucRefs τ sig \ S2) (V1 m d)) := by
  rw [held_sub_split (T d) S2_sub, held_S2]; rfl
/-- After it: `o` masked, nothing else changed. -/
theorem held_V2 (d : Dev nD) : (held (T d) (ucRefs τ sig) (V2 m d) : sProp 𝕄)
    = iprop(((xLoc d ↦{fullShare} X m d) ∗ oLoc d ↦{fullShare} R d (X m d)) ∗ held (T d) (ucRefs τ sig \ S2) (V1 m d)) := by
  rw [held_sub_split (T d) S2_sub, held_S2, show V2 m d x' = X m d from Function.update_of_ne (show x' ≠ o' by decide) _ _,
    show V2 m d o' = R d (X m d) from Function.update_self _ _ _]
  congr 1

abbrev FIN (d : Dev nD) : sProp 𝕄 := iprop((aLoc d ↦{fullShare} m (aLoc d)) ∗ rLoc d ↦{fullShare} Rv m d)

theorem held_V3 (d : Dev nD) : (held (T d) (ucRefs τ sig) (V3 m d) : sProp 𝕄)
    = iprop(FIN m d ∗ held (T d) (ucRefs τ sig \ S2') (V3 m d)) := by
  rw [held_sub_split (T d) S2'_sub, held_S2', V3_a, V3_r]

theorem unscoped_held (d : Dev nD) : (unscopedBufs d (fun b => m ((SparseCore.T d).loc b)) : sProp 𝕄) = held (T d) (ucRefs τ sig) (V0 m d) :=
  unscopedBufs_held d (V0 m d)

/-- @main on device `d`'s TensorCore: the operations before the call, the call from `x` and `o`, the operations after it;
    the argument and the result are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (ucRefs τ sig) _ opsPre pre_sub pre_fresh (V0 m d)) $$ [Hb Hheld]
  · isplitl [Hb] <;> iassumption
  iintro ⟨Hb, Hheld⟩
  ihave Hh := (show (held (d.tc) (ucRefs τ sig) (after opsPre (V0 m d)) : sProp 𝕄) ⊢ _ from Entails.of_eq (held_V1 (F := F) m d)) $$ Hheld
  icases Hh with ⟨Hxo, Hrest⟩
  rw [wp_bind]
  iapply ((K (F := F)).wp_run (D (F := F)) 𝒱 (EH := EH) (P := P m) κ d 0) $$ [Hst Hxo Hb Hrest Hts]
  isplitr; · iexact Hctx
  isplitl [Hst]; · iexact Hst
  isplitl [Hxo]; · rw [st0_eq]; iexact Hxo
  iintro ⟨Hst, Hdn⟩
  ihave Hxo := (Entails.of_eq (dn0_eq m d)) $$ Hdn
  ihave Hheld := (Entails.of_eq (held_V2 (F := F) m d).symm) $$ [Hxo Hrest]
  · isplitl [Hxo] <;> iassumption
  iapply (wp_seq 𝒱 none Set.univ d (ucRefs τ sig) _ opsPost post_sub post_fresh (V2 m d)) $$ [Hb Hheld]
  · isplitl [Hb] <;> iassumption
  iintro ⟨Hb, Hheld⟩
  ihave Hh := (show (held (d.tc) (ucRefs τ sig) (after opsPost (V2 m d)) : sProp 𝕄) ⊢ _ from Entails.of_eq (held_V3 (F := F) m d)) $$ Hheld
  icases Hh with ⟨HF, -⟩
  rw [wp_pure]; imodintro
  isplitl [Hst]; · iexact Hst
  isplitl [HF]; · iexact HF
  isplitl [Hb] <;> iassumption

/-- What the claims read of a device's final state. -/
def fq (d : Dev nD) (s' : Phys nD τ sig (Elt F)) : Prop := s'.mem.mem (aLoc d) = m (aLoc d) ∧ s'.mem.mem (rLoc d) = Rv m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := Rv m d)) $$ [HSI Hr]
  · isplitl [HSI] <;> iassumption
  icases H with %hr
  ipureintro; exact ⟨funext fun i => ha i (Finset.mem_univ i), funext fun i => hr i (Finset.mem_univ i)⟩

/-! ## The program's run -/

def QC : PUnit × MemSt nD τ sig (Elt F) → Prop :=
  fun r => (∀ c : Dev nD, r.2.mem (aLoc c) = m (aLoc c) ∧ r.2.mem (rLoc c) = Rv m c) ∧ r.2.sem = fun _ => 0

/-- Every fair run of the program ends, faulting nowhere, with the argument unchanged, the result at `Rv`, and every
    semaphore at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ideal

end
-- ==== Proof.RefRun.lean ====
/-
  The reference's run. @main is a straight line of host operations, its three private functions among them; written out
  here as one list in four stretches, it ends with the argument unchanged and the result at a term of the argument.
-/
module

public import proofs.«01_k».proof.Proof.KRun
public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Quiescent

@[expose] public section

noncomputable section

namespace Cert.Proof.Ref

open Cert.ReferenceIdeal Cert.ReferenceIdeal.Gen
open Idealize.ShloMosaic Idealize.SL.Sem
open Idealize.ShloMosaic.StableHlo (after seq)

variable {F : FTy → Type} [FloatOps F]

/-! ## The operations -/

/-- The first operations: batch element 0, its positions in one line, and the place of each channel's maximum. -/
abbrev opsA : List (HloOp τ sig (Elt F)) :=
  [StableHlo.unary main_arg0 main_v0 ((extractStridedSlice S1x14x14x512 ![0, 0, 0, 0] · slices_S8x14x14x512_S1x14x14x512_0_0_0_0) : (⟨S8x14x14x512, .f32⟩ : BufTy).Contents (Elt F) → (⟨S1x14x14x512, .f32⟩ : BufTy).Contents (Elt F)),
    StableHlo.reshape main_v0 main_v1 (rfl : (.f32 : EltTy) = .f32) shapeCasts_S1x14x14x512_S14x14x512,
    StableHlo.reshape main_v1 main_v2 (rfl : (.f32 : EltTy) = .f32) shapeCasts_S14x14x512_S196x512,
    StableHlo.TRef.nullary (StableHlo.TRef.of main_call0_v0) (iotaInDim S196x512 32 0),
    StableHlo.TRef.nullary (StableHlo.TRef.of main_call0_cst) (constant S_ .f32 0xFF800000#32),
    StableHlo.TRef.nullary (StableHlo.TRef.of main_call0_c) (constantI S_ 32 0#32),
    StableHlo.TRef.quaternary (StableHlo.TRef.of main_v2) (StableHlo.TRef.of main_call0_v0) (StableHlo.TRef.of main_call0_cst) (StableHlo.TRef.of main_call0_c) (StableHlo.TRef.of main_call0_v1_0) (fun x y u v j => (Host.argReduce reducer_argmax_f32_i32 x y u v reducesTo_S196x512_S512_d0 h_S_ j).1),
    StableHlo.TRef.quaternary (StableHlo.TRef.of main_v2) (StableHlo.TRef.of main_call0_v0) (StableHlo.TRef.of main_call0_cst) (StableHlo.TRef.of main_call0_c) (StableHlo.TRef.of main_v3) (fun x y u v j => (Host.argReduce reducer_argmax_f32_i32 x y u v reducesTo_S196x512_S512_d0 h_S_ j).2)]

/-- The place's row: its floored quotient by 14. -/
abbrev opsB : List (HloOp τ sig (Elt F)) :=
  [StableHlo.nullary main_c (constantI S_ 32 14#32),
    StableHlo.TRef.unary (StableHlo.TRef.of main_c) (StableHlo.TRef.of main_call1_v0) id,
    StableHlo.TRef.unary (StableHlo.TRef.of main_call1_v0) (StableHlo.TRef.of main_call1_v1) (broadcastInDim S512 ![] bcast_S_S512),
    StableHlo.TRef.binary (StableHlo.TRef.of main_v3) (StableHlo.TRef.of main_call1_v1) (StableHlo.TRef.of main_call1_v2) Host.divsi,
    StableHlo.TRef.unary (StableHlo.TRef.of main_v3) (StableHlo.TRef.of main_call1_v3) signi,
    StableHlo.TRef.unary (StableHlo.TRef.of main_call1_v0) (StableHlo.TRef.of main_call1_v4) signi,
    StableHlo.TRef.unary (StableHlo.TRef.of main_call1_v4) (StableHlo.TRef.of main_call1_v5) (broadcastInDim S512 ![] bcast_S_S512),
    StableHlo.TRef.binary (StableHlo.TRef.of main_call1_v3) (StableHlo.TRef.of main_call1_v5) (StableHlo.TRef.of main_call1_v6) (cmpi .ne),
    StableHlo.TRef.unary (StableHlo.TRef.of main_call1_v0) (StableHlo.TRef.of main_call1_v7) (broadcastInDim S512 ![] bcast_S_S512),
    StableHlo.TRef.binary (StableHlo.TRef.of main_v3) (StableHlo.TRef.of main_call1_v7) (StableHlo.TRef.of main_call1_v8) Host.remsi,
    StableHlo.TRef.nullary (StableHlo.TRef.of main_call1_c) (constantI S_ 32 0#32),
    StableHlo.TRef.unary (StableHlo.TRef.of main_call1_c) (StableHlo.TRef.of main_call1_v9) (broadcastInDim S512 ![] bcast_S_S512),
    StableHlo.TRef.binary (StableHlo.TRef.of main_call1_v8) (StableHlo.TRef.of main_call1_v9) (StableHlo.TRef.of main_call1_v10) (cmpi .ne),
    StableHlo.TRef.binary (StableHlo.TRef.of main_call1_v6) (StableHlo.TRef.of main_call1_v10) (StableHlo.TRef.of main_call1_v11) andi,
    StableHlo.TRef.nullary (StableHlo.TRef.of main_call1_c_0) (constantI S_ 32 1#32),
    StableHlo.TRef.unary (StableHlo.TRef.of main_call1_c_0) (StableHlo.TRef.of main_call1_v12) (broadcastInDim S512 ![] bcast_S_S512),
    StableHlo.TRef.binary (StableHlo.TRef.of main_call1_v2) (StableHlo.TRef.of main_call1_v12) (StableHlo.TRef.of main_call1_v13) subi,
    StableHlo.TRef.ternary (StableHlo.TRef.of main_call1_v11) (StableHlo.TRef.of main_call1_v13) (StableHlo.TRef.of main_call1_v2) (StableHlo.TRef.of main_v4) select]

/-- The row as a float, and the place's column: its remainder by 14. -/
abbrev opsC : List (HloOp τ sig (Elt F)) :=
  [StableHlo.unary main_v4 main_v5 (sitofp .f32 : (⟨S512, .i32⟩ : BufTy).Contents (Elt F) → (⟨S512, .f32⟩ : BufTy).Contents (Elt F)),
    StableHlo.nullary main_c_0 (constantI S_ 32 14#32),
    StableHlo.TRef.unary (StableHlo.TRef.of main_c_0) (StableHlo.TRef.of main_call2_v0) id,
    StableHlo.TRef.nullary (StableHlo.TRef.of main_call2_c) (constantI S_ 32 0#32),
    StableHlo.TRef.binary (StableHlo.TRef.of main_call2_v0) (StableHlo.TRef.of main_call2_c) (StableHlo.TRef.of main_call2_v1) (cmpi .eq),
    StableHlo.TRef.nullary (StableHlo.TRef.of main_call2_c_0) (constantI S_ 32 1#32),
    StableHlo.TRef.ternary (StableHlo.TRef.of main_call2_v1) (StableHlo.TRef.of main_call2_c_0) (StableHlo.TRef.of main_call2_v0) (StableHlo.TRef.of main_call2_v2) select,
    StableHlo.TRef.unary (StableHlo.TRef.of main_call2_v2) (StableHlo.TRef.of main_call2_v3) (broadcastInDim S512 ![] bcast_S_S512),
    StableHlo.TRef.binary (StableHlo.TRef.of main_v3) (StableHlo.TRef.of main_call2_v3) (StableHlo.TRef.of main_call2_v4) Host.remsi,
    StableHlo.TRef.nullary (StableHlo.TRef.of main_call2_c_1) (constantI S_ 32 0#32),
    StableHlo.TRef.unary (StableHlo.TRef.of main_call2_c_1) (StableHlo.TRef.of main_call2_v5) (broadcastInDim S512 ![] bcast_S_S512),
    StableHlo.TRef.binary (StableHlo.TRef.of main_call2_v4) (StableHlo.TRef.of main_call2_v5) (StableHlo.TRef.of main_call2_v6) (cmpi .ne),
    StableHlo.TRef.nullary (StableHlo.TRef.of main_call2_c_2) (constantI S_ 32 0#32),
    StableHlo.TRef.unary (StableHlo.TRef.of main_call2_c_2) (StableHlo.TRef.of main_call2_v7) (broadcastInDim S512 ![] bcast_S_S512),
    StableHlo.TRef.binary (StableHlo.TRef.of main_call2_v4) (StableHlo.TRef.of main_call2_v7) (StableHlo.TRef.of main_call2_v8) (cmpi .slt),
    StableHlo.TRef.nullary (StableHlo.TRef.of main_call2_c_3) (constantI S_ 32 0#32),
    StableHlo.TRef.binary (StableHlo.TRef.of main_call2_v2) (StableHlo.TRef.of main_call2_c_3) (StableHlo.TRef.of main_call2_v9) (cmpi .slt),
    StableHlo.TRef.unary (StableHlo.TRef.of main_call2_v9) (StableHlo.TRef.of main_call2_v10) (broadcastInDim S512 ![] bcast_S_S512),
    StableHlo.TRef.binary (StableHlo.TRef.of main_call2_v8) (StableHlo.TRef.of main_call2_v10) (StableHlo.TRef.of main_call2_v11) (cmpi .ne),
    StableHlo.TRef.binary (StableHlo.TRef.of main_call2_v11) (StableHlo.TRef.of main_call2_v6) (StableHlo.TRef.of main_call2_v12) andi,
    StableHlo.TRef.unary (StableHlo.TRef.of main_call2_v2) (StableHlo.TRef.of main_call2_v13) (broadcastInDim S512 ![] bcast_S_S512),
    StableHlo.TRef.binary (StableHlo.TRef.of main_call2_v4) (StableHlo.TRef.of main_call2_v13) (StableHlo.TRef.of main_call2_v14) addi,
    StableHlo.TRef.ternary (StableHlo.TRef.of main_call2_v12) (StableHlo.TRef.of main_call2_v14) (StableHlo.TRef.of main_call2_v4) (StableHlo.TRef.of main_v6) select]

/-- The penalty at every position, the masked array, and the array of zeros it is put into. -/
abbrev opsD : List (HloOp τ sig (Elt F)) :=
  [StableHlo.unary main_v6 main_v7 (sitofp .f32 : (⟨S512, .i32⟩ : BufTy).Contents (Elt F) → (⟨S512, .f32⟩ : BufTy).Contents (Elt F)),
    StableHlo.nullary main_v8 (sitofp .f32 (iotaInDim S14 32 0)),
    StableHlo.unary main_v8 main_v9 (broadcastInDim S14x1x1 ![0] bcast_S14_S14x1x1_0 : (⟨S14, .f32⟩ : BufTy).Contents (Elt F) → (⟨S14x1x1, .f32⟩ : BufTy).Contents (Elt F)),
    StableHlo.nullary main_v10 (sitofp .f32 (iotaInDim S14 32 0)),
    StableHlo.unary main_v10 main_v11 (broadcastInDim S1x14x1 ![1] bcast_S14_S1x14x1_1 : (⟨S14, .f32⟩ : BufTy).Contents (Elt F) → (⟨S1x14x1, .f32⟩ : BufTy).Contents (Elt F)),
    StableHlo.unary main_v5 main_v12 (broadcastInDim S1x1x512 ![2] bcast_S512_S1x1x512_2 : (⟨S512, .f32⟩ : BufTy).Contents (Elt F) → (⟨S1x1x512, .f32⟩ : BufTy).Contents (Elt F)),
    StableHlo.unary main_v9 main_v13 (broadcastInDim S14x1x512 ![0, 1, 2] bcast_S14x1x1_S14x1x512_0_1_2 : (⟨S14x1x1, .f32⟩ : BufTy).Contents (Elt F) → (⟨S14x1x512, .f32⟩ : BufTy).Contents (Elt F)),
    StableHlo.unary main_v12 main_v14 (broadcastInDim S14x1x512 ![0, 1, 2] bcast_S1x1x512_S14x1x512_0_1_2 : (⟨S1x1x512, .f32⟩ : BufTy).Contents (Elt F) → (⟨S14x1x512, .f32⟩ : BufTy).Contents (Elt F)),
    StableHlo.binary main_v13 main_v14 main_v15 (subf : (⟨S14x1x512, .f32⟩ : BufTy).Contents (Elt F) → (⟨S14x1x512, .f32⟩ : BufTy).Contents (Elt F) → (⟨S14x1x512, .f32⟩ : BufTy).Contents (Elt F)),
    StableHlo.unary main_v15 main_v16 (Host.absf : (⟨S14x1x512, .f32⟩ : BufTy).Contents (Elt F) → (⟨S14x1x512, .f32⟩ : BufTy).Contents (Elt F)),
    StableHlo.unary main_v7 main_v17 (broadcastInDim S1x1x512 ![2] bcast_S512_S1x1x512_2 : (⟨S512, .f32⟩ : BufTy).Contents (Elt F) → (⟨S1x1x512, .f32⟩ : BufTy).Contents (Elt F)),
    StableHlo.unary main_v11 main_v18 (broadcastInDim S1x14x512 ![0, 1, 2] bcast_S1x14x1_S1x14x512_0_1_2 : (⟨S1x14x1, .f32⟩ : BufTy).Contents (Elt F) → (⟨S1x14x512, .f32⟩ : BufTy).Contents (Elt F)),
    StableHlo.unary main_v17 main_v19 (broadcastInDim S1x14x512 ![0, 1, 2] bcast_S1x1x512_S1x14x512_0_1_2 : (⟨S1x1x512, .f32⟩ : BufTy).Contents (Elt F) → (⟨S1x14x512, .f32⟩ : BufTy).Contents (Elt F)),
    StableHlo.binary main_v18 main_v19 main_v20 (subf : (⟨S1x14x512, .f32⟩ : BufTy).Contents (Elt F) → (⟨S1x14x512, .f32⟩ : BufTy).Contents (Elt F) → (⟨S1x14x512, .f32⟩ : BufTy).Contents (Elt F)),
    StableHlo.unary main_v20 main_v21 (Host.absf : (⟨S1x14x512, .f32⟩ : BufTy).Contents (Elt F) → (⟨S1x14x512, .f32⟩ : BufTy).Contents (Elt F)),
    StableHlo.unary main_v16 main_v22 (broadcastInDim S14x14x512 ![0, 1, 2] bcast_S14x1x512_S14x14x512_0_1_2 : (⟨S14x1x512, .f32⟩ : BufTy).Contents (Elt F) → (⟨S14x14x512, .f32⟩ : BufTy).Contents (Elt F)),
    StableHlo.unary main_v21 main_v23 (broadcastInDim S14x14x512 ![0, 1, 2] bcast_S1x14x512_S14x14x512_0_1_2 : (⟨S1x14x512, .f32⟩ : BufTy).Contents (Elt F) → (⟨S14x14x512, .f32⟩ : BufTy).Contents (Elt F)),
    StableHlo.binary main_v22 main_v23 main_v24 (addf : (⟨S14x14x512, .f32⟩ : BufTy).Contents (Elt F) → (⟨S14x14x512, .f32⟩ : BufTy).Contents (Elt F) → (⟨S14x14x512, .f32⟩ : BufTy).Contents (Elt F)),
    StableHlo.nullary main_cst (constant S_ .f32 0x40800000#32),
    StableHlo.unary main_cst main_v25 (broadcastInDim S14x14x512 ![] bcast_S_S14x14x512 : (⟨S_, .f32⟩ : BufTy).Contents (Elt F) → (⟨S14x14x512, .f32⟩ : BufTy).Contents (Elt F)),
    StableHlo.binary main_v25 main_v24 main_v26 (mulf : (⟨S14x14x512, .f32⟩ : BufTy).Contents (Elt F) → (⟨S14x14x512, .f32⟩ : BufTy).Contents (Elt F) → (⟨S14x14x512, .f32⟩ : BufTy).Contents (Elt F)),
    StableHlo.nullary main_cst_1 (constant S_ .f32 0x41600000#32),
    StableHlo.unary main_cst_1 main_v27 (broadcastInDim S14x14x512 ![] bcast_S_S14x14x512 : (⟨S_, .f32⟩ : BufTy).Contents (Elt F) → (⟨S14x14x512, .f32⟩ : BufTy).Contents (Elt F)),
    StableHlo.binary main_v26 main_v27 main_v28 (Host.divf : (⟨S14x14x512, .f32⟩ : BufTy).Contents (Elt F) → (⟨S14x14x512, .f32⟩ : BufTy).Contents (Elt F) → (⟨S14x14x512, .f32⟩ : BufTy).Contents (Elt F)),
    StableHlo.nullary main_cst_2 (constant S_ .f32 0x3F800000#32),
    StableHlo.unary main_cst_2 main_v29 (broadcastInDim S14x14x512 ![] bcast_S_S14x14x512 : (⟨S_, .f32⟩ : BufTy).Contents (Elt F) → (⟨S14x14x512, .f32⟩ : BufTy).Contents (Elt F)),
    StableHlo.binary main_v29 main_v28 main_v30 (subf : (⟨S14x14x512, .f32⟩ : BufTy).Contents (Elt F) → (⟨S14x14x512, .f32⟩ : BufTy).Contents (Elt F) → (⟨S14x14x512, .f32⟩ : BufTy).Contents (Elt F)),
    StableHlo.nullary main_cst_3 (constant S_ .f32 0xBF800000#32),
    StableHlo.unary main_cst_3 main_v31 (broadcastInDim S14x14x512 ![] bcast_S_S14x14x512 : (⟨S_, .f32⟩ : BufTy).Contents (Elt F) → (⟨S14x14x512, .f32⟩ : BufTy).Contents (Elt F)),
    StableHlo.binary main_v30 main_v31 main_v32 (maximumf : (⟨S14x14x512, .f32⟩ : BufTy).Contents (Elt F) → (⟨S14x14x512, .f32⟩ : BufTy).Contents (Elt F) → (⟨S14x14x512, .f32⟩ : BufTy).Contents (Elt F)),
    StableHlo.nullary main_cst_4 (constant S_ .f32 0x3B272F05#32),
    StableHlo.unary main_cst_4 main_v33 (broadcastInDim S14x14x512 ![] bcast_S_S14x14x512 : (⟨S_, .f32⟩ : BufTy).Contents (Elt F) → (⟨S14x14x512, .f32⟩ : BufTy).Contents (Elt F)),
    StableHlo.binary main_v33 main_v32 main_v34 (mulf : (⟨S14x14x512, .f32⟩ : BufTy).Contents (Elt F) → (⟨S14x14x512, .f32⟩ : BufTy).Contents (Elt F) → (⟨S14x14x512, .f32⟩ : BufTy).Contents (Elt F)),
    StableHlo.binary main_v1 main_v34 main_v35 (mulf : (⟨S14x14x512, .f32⟩ : BufTy).Contents (Elt F) → (⟨S14x14x512, .f32⟩ : BufTy).Contents (Elt F) → (⟨S14x14x512, .f32⟩ : BufTy).Contents (Elt F)),
    StableHlo.nullary main_cst_5 (constant S_ .f32 0x00000000#32),
    StableHlo.unary main_cst_5 main_v36 (broadcastInDim S8x14x14x512 ![] bcast_S_S8x14x14x512 : (⟨S_, .f32⟩ : BufTy).Contents (Elt F) → (⟨S8x14x14x512, .f32⟩ : BufTy).Contents (Elt F)),
    StableHlo.nullary main_c_6 (constantI S_ 32 0#32),
    StableHlo.unary main_c_6 main_v37 (broadcastInDim S1 ![] bcast_S_S1 : (⟨S_, .i32⟩ : BufTy).Contents (Elt F) → (⟨S1, .i32⟩ : BufTy).Contents (Elt F)),
    StableHlo.ternary main_v36 main_v37 main_v35 main_v38 ((fun x i u => Host.scatter scatter_S8x14x14x512_S1_S14x14x512_012_0_0_0 (fun _ b => b) x i u) : (⟨S8x14x14x512, .f32⟩ : BufTy).Contents (Elt F) → (⟨S1, .i32⟩ : BufTy).Contents (Elt F) → (⟨S14x14x512, .f32⟩ : BufTy).Contents (Elt F) → (⟨S8x14x14x512, .f32⟩ : BufTy).Contents (Elt F))]

set_option maxHeartbeats 4000000 in
theorem main_eq (d : Dev nD) : main (F := F) d = seq (opsA ++ (opsB ++ (opsC ++ opsD))) := rfl

/-! ## What each stretch leaves -/

theorem after_append (l l' : List (HloOp τ sig (Elt F))) (V : Valuation τ sig (Elt F)) : after (l ++ l') V = after l' (after l V) := by
  induction l generalizing V with
  | nil => rfl
  | cons op l ih => exact ih _

theorem opsA_of_ne (V : Valuation τ sig (Elt F)) (r : Ref sig .tc) (h : r ∉ [main_v0, main_v1, main_v2, main_call0_v0, main_call0_cst, main_call0_c, main_call0_v1_0, main_v3]) :
    after opsA V (Proc.devRef .tc r) = V (Proc.devRef .tc r) :=
  StableHlo.after_of_writes_sub (W := [main_v0, main_v1, main_v2, main_call0_v0, main_call0_cst, main_call0_c, main_call0_v1_0, main_v3]) opsA V (StableHlo.forall_writes_sub_of_map rfl) h

theorem opsB_of_ne (V : Valuation τ sig (Elt F)) (r : Ref sig .tc) (h : r ∉ [main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v4]) :
    after opsB V (Proc.devRef .tc r) = V (Proc.devRef .tc r) :=
  StableHlo.after_of_writes_sub (W := [main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v4]) opsB V (StableHlo.forall_writes_sub_of_map rfl) h

theorem opsC_of_ne (V : Valuation τ sig (Elt F)) (r : Ref sig .tc) (h : r ∉ [main_v5, main_c_0, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v6]) :
    after opsC V (Proc.devRef .tc r) = V (Proc.devRef .tc r) :=
  StableHlo.after_of_writes_sub (W := [main_v5, main_c_0, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v6]) opsC V (StableHlo.forall_writes_sub_of_map rfl) h

theorem opsD_of_ne (V : Valuation τ sig (Elt F)) (r : Ref sig .tc) (h : r ∉ [main_v7, main_v8, main_v9, main_v10, main_v11, main_v12, main_v13, main_v14, main_v15, main_v16, main_v17, main_v18, main_v19, main_v20, main_v21, main_v22, main_v23, main_v24, main_cst, main_v25, main_v26, main_cst_1, main_v27, main_v28, main_cst_2, main_v29, main_v30, main_cst_3, main_v31, main_v32, main_cst_4, main_v33, main_v34, main_v35, main_cst_5, main_v36, main_c_6, main_v37, main_v38]) :
    after opsD V (Proc.devRef .tc r) = V (Proc.devRef .tc r) :=
  StableHlo.after_of_writes_sub (W := [main_v7, main_v8, main_v9, main_v10, main_v11, main_v12, main_v13, main_v14, main_v15, main_v16, main_v17, main_v18, main_v19, main_v20, main_v21, main_v22, main_v23, main_v24, main_cst, main_v25, main_v26, main_cst_1, main_v27, main_v28, main_cst_2, main_v29, main_v30, main_cst_3, main_v31, main_v32, main_cst_4, main_v33, main_v34, main_v35, main_cst_5, main_v36, main_c_6, main_v37, main_v38]) opsD V (StableHlo.forall_writes_sub_of_map rfl) h

/-- Batch element 0 of the argument, and the same with its positions in one line. -/
abbrev img (a : FVec F S8x14x14x512 .f32) : FVec F S14x14x512 .f32 :=
  shapeCast S14x14x512 (extractStridedSlice S1x14x14x512 ![0, 0, 0, 0] a slices_S8x14x14x512_S1x14x14x512_0_0_0_0) shapeCasts_S1x14x14x512_S14x14x512
abbrev flat (a : FVec F S8x14x14x512 .f32) : FVec F S196x512 .f32 := shapeCast S196x512 (img a) shapeCasts_S14x14x512_S196x512

/-- The flat place of each channel's maximum. -/
def place (X : FVec F S196x512 .f32) : IVec S512 32 :=
  fun j => (Host.argReduce reducer_argmax_f32_i32 X (iotaInDim S196x512 32 0) (constant S_ .f32 0xFF800000#32) (constantI S_ 32 0#32)
    reducesTo_S196x512_S512_d0 h_S_ j).2

/-- The floored quotient of a vector of words by 14, as the reference computes it. -/
def quot (w : IVec S512 32) : IVec S512 32 :=
  let c : IVec S_ 32 := constantI S_ 32 14#32
  let q := Host.divsi w (broadcastInDim S512 ![] bcast_S_S512 c)
  select (andi (cmpi .ne (signi w) (broadcastInDim S512 ![] bcast_S_S512 (signi c)))
      (cmpi .ne (Host.remsi w (broadcastInDim S512 ![] bcast_S_S512 c)) (broadcastInDim S512 ![] bcast_S_S512 (constantI S_ 32 0#32))))
    (subi q (broadcastInDim S512 ![] bcast_S_S512 (constantI S_ 32 1#32))) q

/-- The remainder of a vector of words by 14, with the divisor's sign, as the reference computes it. -/
def remn (w : IVec S512 32) : IVec S512 32 :=
  let c : IVec S_ 32 := constantI S_ 32 14#32
  let c' : IVec S_ 32 := select (cmpi .eq c (constantI S_ 32 0#32)) (constantI S_ 32 1#32) c
  let r := Host.remsi w (broadcastInDim S512 ![] bcast_S_S512 c')
  select (andi (cmpi .ne (cmpi .slt r (broadcastInDim S512 ![] bcast_S_S512 (constantI S_ 32 0#32)))
        (broadcastInDim S512 ![] bcast_S_S512 (cmpi .slt c' (constantI S_ 32 0#32))))
      (cmpi .ne r (broadcastInDim S512 ![] bcast_S_S512 (constantI S_ 32 0#32))))
    (addi r (broadcastInDim S512 ![] bcast_S_S512 c')) r

/-- The city-block distance of every position from the place of its channel's maximum, given by row and column. -/
def dist (q r : FVec F S512 .f32) : FVec F S14x14x512 .f32 :=
  addf
    (broadcastInDim S14x14x512 ![0, 1, 2] bcast_S14x1x512_S14x14x512_0_1_2 (Host.absf (subf
      (broadcastInDim S14x1x512 ![0, 1, 2] bcast_S14x1x1_S14x1x512_0_1_2 (broadcastInDim S14x1x1 ![0] bcast_S14_S14x1x1_0 (sitofp .f32 (iotaInDim S14 32 0))))
      (broadcastInDim S14x1x512 ![0, 1, 2] bcast_S1x1x512_S14x1x512_0_1_2 (broadcastInDim S1x1x512 ![2] bcast_S512_S1x1x512_2 q)))))
    (broadcastInDim S14x14x512 ![0, 1, 2] bcast_S1x14x512_S14x14x512_0_1_2 (Host.absf (subf
      (broadcastInDim S1x14x512 ![0, 1, 2] bcast_S1x14x1_S1x14x512_0_1_2 (broadcastInDim S1x14x1 ![1] bcast_S14_S1x14x1_1 (sitofp .f32 (iotaInDim S14 32 0))))
      (broadcastInDim S1x14x512 ![0, 1, 2] bcast_S1x1x512_S1x14x512_0_1_2 (broadcastInDim S1x1x512 ![2] bcast_S512_S1x1x512_2 r)))))

/-- The penalty mask from those distances. -/
def mask (D : FVec F S14x14x512 .f32) : FVec F S14x14x512 .f32 :=
  mulf (broadcastInDim S14x14x512 ![] bcast_S_S14x14x512 (constant S_ .f32 0x3B272F05#32))
    (maximumf
      (subf (broadcastInDim S14x14x512 ![] bcast_S_S14x14x512 (constant S_ .f32 0x3F800000#32))
        (Host.divf (mulf (broadcastInDim S14x14x512 ![] bcast_S_S14x14x512 (constant S_ .f32 0x40800000#32)) D)
          (broadcastInDim S14x14x512 ![] bcast_S_S14x14x512 (constant S_ .f32 0x41600000#32))))
      (broadcastInDim S14x14x512 ![] bcast_S_S14x14x512 (constant S_ .f32 0xBF800000#32)))

/-- An array put at batch element 0 of an array of zeros. -/
def placed (u : FVec F S14x14x512 .f32) : FVec F S8x14x14x512 .f32 :=
  Host.scatter scatter_S8x14x14x512_S1_S14x14x512_012_0_0_0 (fun _ b => b)
    (broadcastInDim S8x14x14x512 ![] bcast_S_S8x14x14x512 (constant S_ .f32 0x00000000#32))
    (broadcastInDim S1 ![] bcast_S_S1 (constantI S_ 32 0#32)) u

theorem opsA_v1 (V : Valuation τ sig (Elt F)) :
    after opsA V (Proc.devRef .tc (main_v1 : Ref sig .tc)) = img (V (Proc.devRef .tc (main_arg0 : Ref sig .tc))) := by
  unfold opsA
  after_results_simp
  rfl

theorem opsA_v3 (V : Valuation τ sig (Elt F)) :
    after opsA V (Proc.devRef .tc (main_v3 : Ref sig .tc)) = place (flat (V (Proc.devRef .tc (main_arg0 : Ref sig .tc)))) := by
  unfold opsA
  after_results_simp
  rfl

theorem opsB_v4 (V : Valuation τ sig (Elt F)) :
    after opsB V (Proc.devRef .tc (main_v4 : Ref sig .tc)) = quot (V (Proc.devRef .tc (main_v3 : Ref sig .tc))) := by
  unfold opsB
  after_results_simp
  rfl

theorem opsC_v5 (V : Valuation τ sig (Elt F)) :
    after opsC V (Proc.devRef .tc (main_v5 : Ref sig .tc)) = sitofp .f32 (V (Proc.devRef .tc (main_v4 : Ref sig .tc)) : IVec S512 32) := by
  unfold opsC
  after_results_simp

theorem opsC_v6 (V : Valuation τ sig (Elt F)) :
    after opsC V (Proc.devRef .tc (main_v6 : Ref sig .tc)) = remn (V (Proc.devRef .tc (main_v3 : Ref sig .tc))) := by
  unfold opsC
  after_results_simp
  rfl

theorem opsD_v38 (V : Valuation τ sig (Elt F)) :
    after opsD V (Proc.devRef .tc (main_v38 : Ref sig .tc))
      = placed (mulf (V (Proc.devRef .tc (main_v1 : Ref sig .tc)))
          (mask (dist (V (Proc.devRef .tc (main_v5 : Ref sig .tc))) (sitofp .f32 (V (Proc.devRef .tc (main_v6 : Ref sig .tc)) : IVec S512 32))))) := by
  unfold opsD
  after_results_simp
  rfl

/-! ## The whole line -/

/-- The reference's result, as a function of its argument. -/
def result (a : FVec F S8x14x14x512 .f32) : FVec F S8x14x14x512 .f32 :=
  placed (mulf (img a) (mask (dist (sitofp .f32 (quot (place (flat a)))) (sitofp .f32 (remn (place (flat a)))))))

/-- After the whole line the result's buffer holds `result` of the argument's. -/
theorem line_v38 (V : Valuation τ sig (Elt F)) :
    after (opsA ++ (opsB ++ (opsC ++ opsD))) V (Proc.devRef .tc (main_v38 : Ref sig .tc))
      = result (V (Proc.devRef .tc (main_arg0 : Ref sig .tc))) := by
  rw [after_append, after_append, after_append, opsD_v38, opsC_v5, opsC_v6, opsC_of_ne _ main_v1 (by decide),
    opsB_v4, opsB_of_ne _ main_v1 (by decide), opsB_of_ne _ main_v3 (by decide), opsA_v1, opsA_v3]
  rfl

/-- Nothing in the line writes the argument's buffer. -/
theorem line_arg0 (V : Valuation τ sig (Elt F)) :
    after (opsA ++ (opsB ++ (opsC ++ opsD))) V (Proc.devRef .tc (main_arg0 : Ref sig .tc)) = V (Proc.devRef .tc (main_arg0 : Ref sig .tc)) := by
  rw [after_append, after_append, after_append, opsD_of_ne _ main_arg0 (by decide), opsC_of_ne _ main_arg0 (by decide),
    opsB_of_ne _ main_arg0 (by decide), opsA_of_ne _ main_arg0 (by decide)]

theorem line_sub : (opsA (F := F) ++ (opsB ++ (opsC ++ opsD))).Forall fun op : HloOp τ sig (Elt F) => op.bufs ⊆ StableHlo.tcRefs τ sig := by
  simp

theorem line_fresh : ∀ op ∈ opsA (F := F) ++ (opsB ++ (opsC ++ opsD)), op.fresh = ∅ :=
  List.forall_iff_forall_mem.mp (StableHlo.forall_fresh_of_map rfl)

variable (m : (ℓ : Loc nD τ sig) → Buf (Elt F) ℓ) (ρ : Dev nD → PrngReg)

/-- Every run of the reference ends with the result at `result` of the argument and the argument unchanged. -/
theorem run : θ_run (defs (F := F)) (onTc (τ := τ) (main (F := F))) ⟨m, fun _ => 0, ρ⟩ fun r => ∀ c : Dev nD,
    r.2.mem ((c.tc : Thread nD τ).loc main_v38) = result (m ((c.tc : Thread nD τ).loc main_arg0))
      ∧ r.2.mem ((c.tc : Thread nD τ).loc main_arg0) = m ((c.tc : Thread nD τ).loc main_arg0) :=
  θ_run_mono
    (StableHlo.run_seq (by decide) (by decide) (defs (F := F)) main (fun _ => opsA ++ (opsB ++ (opsC ++ opsD))) main_eq (fun _ => line_sub) m ρ (fun _ => line_fresh))
    fun _ h c => ⟨(h c main_v38).trans (line_v38 _), (h c main_arg0).trans (line_arg0 _)⟩

end Cert.Proof.Ref

end
-- ==== Proof.ArgMax.lean ====
/-
  The place of a channel's maximum, on the extended reals. The reference folds jax's arg-max body down each column, from
  minus infinity and place 0; the kernel keeps a running maximum that moves only to a strictly greater value. No extended
  real is unequal to itself and the places come in increasing order, so the two keep the same value and the same place.
-/
module

public import proofs.«01_k».proof.Proof.Value
public import proofs.«01_k».proof.Proof.RefRun
public import Idealize.ShloMosaic.PureOps.Ideal.Laws
public import Idealize.ShloMosaic.Lib.WordArith.Masks

@[expose] public section

noncomputable section

namespace Cert.Proof

open Idealize.ShloMosaic Idealize.ShloMosaic.ValueIdx
open Cert.ReferenceIdeal Cert.ReferenceIdeal.Gen

/-! ## The running maximum -/

/-- The place the running maximum keeps: one of the positions already seen, or 0. -/
theorem runMax_place (col : ℕ → Ideal .f32) (t : ℕ) (ht : t ≤ 196) :
    ∃ k : ℕ, k < 196 ∧ (k < t ∨ k = 0) ∧ (runMax col t).2 = BitVec.ofNat 32 k := by
  induction t with
  | zero => exact ⟨0, by omega, Or.inr rfl, rfl⟩
  | succ t ih =>
    obtain ⟨k, hk, hkt, e⟩ := ih (by omega)
    have hs : (runMax col (t + 1)).2
        = Scalar.select (FloatOps.cmpf .ogt (col t) (runMax col t).1) (Scf.iv 0#32 1#32 t) (runMax col t).2 := rfl
    rw [hs]
    unfold Scalar.select
    split
    · refine ⟨t, by omega, Or.inl (by omega), ?_⟩
      apply BitVec.eq_of_toNat_eq
      rw [WordArith.toNat_iv_zero_one t (by omega), BitVec.toNat_ofNat, Nat.mod_eq_of_lt (by omega)]
    · exact ⟨k, hk, by omega, e⟩

/-- Places below 196 compare as signed words in their own order. -/
theorem slt_of_lt (k t : ℕ) (hk : k < 196) (ht : t < 196) (h : k < t) :
    (BitVec.ofNat 32 k).slt (BitVec.ofNat 32 t) = true := by
  rw [BitVec.slt_iff_toInt_lt, BitVec.toInt_ofNat', BitVec.toInt_ofNat']
  simp only [Int.bmod_def]
  omega

/-- One step of the reference's fold is one step of the running maximum: the pair read replaces the kept one exactly when
    its value is greater. -/
theorem reducer_step (a b : EReal) (k t : ℕ) (hk : k < 196) (ht : t < 196) (h : k < t ∨ (k = 0 ∧ t = 0)) :
    reducer_argmax_f32_i32 (F := Ideal) ((a : Ideal .f32), BitVec.ofNat 32 k) ((b : Ideal .f32), BitVec.ofNat 32 t)
      = (Scalar.select (Ideal.cmp .ogt b a) b a,
          Scalar.select (Ideal.cmp .ogt b a) (BitVec.ofNat 32 t) (BitVec.ofNat 32 k)) := by
  have e : reducer_argmax_f32_i32 (F := Ideal) ((a : Ideal .f32), BitVec.ofNat 32 k) ((b : Ideal .f32), BitVec.ofNat 32 t)
      = (Scalar.select (Ideal.cmp .ogt a b ||| Ideal.cmp .une a a) a b,
          Scalar.select ((Ideal.cmp .ogt a b ||| Ideal.cmp .une a a)
            ||| (Ideal.cmp .oeq a b &&& BitVec.ofBool ((BitVec.ofNat 32 k).slt (BitVec.ofNat 32 t))))
            (BitVec.ofNat 32 k) (BitVec.ofNat 32 t)) := rfl
  rw [e]
  rcases lt_trichotomy a b with hab | hab | hab
  · simp [Ideal.cmp, Scalar.select, hab, hab.not_gt, hab.ne]
  · subst hab
    rcases h with h | ⟨rfl, rfl⟩
    · simp [Ideal.cmp, Scalar.select, slt_of_lt k t hk ht h]
    · simp [Ideal.cmp, Scalar.select]
  · simp [Ideal.cmp, Scalar.select, hab, hab.not_gt, hab.ne']

/-! ## The reference's fold -/

/-- Folding the reference's body over the first `t` rows of a column, paired with their row numbers, gives the running
    maximum after `t` steps. -/
theorem fold_eq_runMax (col : ℕ → Ideal .f32) (t : ℕ) (ht : t ≤ 196) :
    (List.range t).foldl (fun acc r => reducer_argmax_f32_i32 (F := Ideal) acc (col r, BitVec.ofNat 32 r))
        (FloatOps.ofBits .f32 0xFF800000#32, 0#32)
      = runMax col t := by
  induction t with
  | zero => rfl
  | succ t ih =>
    rw [List.range_succ, List.foldl_append, ih (by omega), List.foldl_cons, List.foldl_nil]
    obtain ⟨k, hk, hkt, e⟩ := runMax_place col t (by omega)
    have e' : runMax col t = ((runMax col t).1, BitVec.ofNat 32 k) := Prod.ext rfl e
    have hiv : Scf.iv 0#32 1#32 t = BitVec.ofNat 32 t := by
      apply BitVec.eq_of_toNat_eq
      rw [WordArith.toNat_iv_zero_one t (by omega), BitVec.toNat_ofNat, Nat.mod_eq_of_lt (by omega)]
    have hs : runMax col (t + 1)
        = (Scalar.select (Ideal.cmp .ogt (col t) (runMax col t).1) (col t) (runMax col t).1,
            Scalar.select (Ideal.cmp .ogt (col t) (runMax col t).1) (Scf.iv 0#32 1#32 t) (runMax col t).2) := rfl
    rw [hs, hiv, e, e']
    exact reducer_step _ _ k t hk (by omega) (by omega)

/-- The place the reference keeps for channel `l` is the place the running maximum keeps after all 196 rows. -/
theorem place_eq (X : FVec Ideal S196x512 .f32) (l : Fin 512) :
    Ref.place X (ix1 l) = (runMax (column X l) 196).2 := by
  have hr : Shape.Reduces S196x512 [0] S512 := by decide
  unfold Ref.place
  rw [Ideal.argReduce_eq_reduce2]
  have h2 : Host.reduce2 (reducer_argmax_f32_i32 (F := Ideal)) X (iotaInDim S196x512 32 0) (constant S_ .f32 0xFF800000#32)
        (constantI S_ 32 0#32) reducesTo_S196x512_S512_d0 h_S_ (ix1 l)
      = reduceFold hr (reducer_argmax_f32_i32 (F := Ideal))
          ((FloatOps.ofBits .f32 0xFF800000#32 : Ideal .f32), 0#32) (fun i => (X i, iotaInDim S196x512 32 0 i)) (ix1 l) := rfl
  rw [h2, reduceFold_rows]
  have hf : (fun (acc : Ideal .f32 × BitVec 32) (r : Fin 196) =>
        reducer_argmax_f32_i32 (F := Ideal) acc (column X l r.val, BitVec.ofNat 32 r.val))
      = fun acc r => reducer_argmax_f32_i32 (F := Ideal) acc (X (ix2 r l), BitVec.ofNat 32 r.val) := by
    funext acc r
    have hc : column X l r.val = X (ix2 r l) := by
      unfold column
      rw [dif_pos r.isLt]
    rw [hc]
  have hl : (List.finRange 196).foldl (fun (acc : Ideal .f32 × BitVec 32) (r : Fin 196) =>
        reducer_argmax_f32_i32 (F := Ideal) acc (column X l r.val, BitVec.ofNat 32 r.val))
        (FloatOps.ofBits .f32 0xFF800000#32, 0#32) = runMax (column X l) 196 := by
    rw [← fold_eq_runMax _ 196 le_rfl, ← List.map_coe_finRange_eq_range (n := 196), List.foldl_map]
  rw [← hl, hf]
  refine congrArg (fun g : Ideal .f32 × BitVec 32 → Fin 196 → Ideal .f32 × BitVec 32 =>
    ((List.finRange 196).foldl g (FloatOps.ofBits .f32 0xFF800000#32, 0#32)).2) (funext fun acc => funext fun r => ?_)
  have hp : Shape.pair (d := ![196, 512]) r (hr.col (ix1 l)) = ix2 r l := by
    funext a
    refine Fin.cases rfl (fun a => ?_) a
    exact Fin.cases rfl (fun a => a.elim0) a
  rw [hp]
  rfl

end Cert.Proof

end
-- ==== Proof.Mask.lean ====
/-
  The penalty mask on the extended reals: the kernel's penalty at a position, with the distance scaled by two sevenths, is
  the reference's mask there, with the distance multiplied by 4 and divided by 14.
-/
module

public import proofs.«01_k».proof.Proof.ArgMax
public import Idealize.ShloMosaic.Lib.Routing.Words
public import Idealize.ShloMosaic.PureOps.IdealRules

@[expose] public section

noncomputable section

namespace Cert.Proof

open Idealize.ShloMosaic Idealize.ShloMosaic.ValueIdx
open Cert.ReferenceIdeal Cert.ReferenceIdeal.Gen

/-! ## The row and column of a place -/

/-- A word's sign, as a word: 0, 1 or -1. -/
def signWord (x : BitVec 32) : BitVec 32 := if x = 0 then 0 else if x.msb then -1 else 1

/-- The sign of a small natural's word is 0 at zero and 1 above. -/
theorem signWord_ofNat (k : ℕ) (hk : k < 196) : signWord (BitVec.ofNat 32 k) = if k = 0 then 0#32 else 1#32 := by
  revert k
  decide

/-- Comparing a word with itself for inequality gives the zero bit. -/
theorem cmpi_ne_self {w : ℕ} (x : BitVec w) : IntOp.cmpi .ne x x = 0#1 := by simp [IntOp.cmpi]

/-- The reference's floored quotient by 14 of a place below 196 is the place's row. -/
theorem quot_eq (w : IVec S512 32) (l : Fin 512) (k : ℕ) (hk : k < 196) (hw : w (ix1 l) = BitVec.ofNat 32 k) :
    Ref.quot w (ix1 l) = BitVec.ofNat 32 (k / 14) := by
  have e : Ref.quot w (ix1 l)
      = Scalar.select
          (IntOp.cmpi .ne (signWord (w (ix1 l))) (signWord (BitVec.ofNat 32 14))
            &&& IntOp.cmpi .ne (IntOp.remsi .host (w (ix1 l)) (BitVec.ofNat 32 14)) 0#32)
          (IntOp.divsi .host (w (ix1 l)) (BitVec.ofNat 32 14) - 1#32) (IntOp.divsi .host (w (ix1 l)) (BitVec.ofNat 32 14)) := rfl
  rw [e, hw, Routing.divsi_word .host (by omega) (by omega) (by omega),
    Routing.remsi_word .host (by omega) (by omega) (by omega), signWord_ofNat k hk, signWord_ofNat 14 (by omega)]
  rcases Nat.eq_zero_or_pos k with rfl | h
  · rfl
  · rw [if_neg (by omega), if_neg (by omega), cmpi_ne_self, BitVec.zero_and]
    rfl

/-- The reference's remainder by 14 of a place below 196 is the place's column. -/
theorem remn_eq (w : IVec S512 32) (l : Fin 512) (k : ℕ) (hk : k < 196) (hw : w (ix1 l) = BitVec.ofNat 32 k) :
    Ref.remn w (ix1 l) = BitVec.ofNat 32 (k % 14) := by
  have e : Ref.remn w (ix1 l)
      = Scalar.select
          (IntOp.cmpi .ne (IntOp.cmpi .slt (IntOp.remsi .host (w (ix1 l)) (BitVec.ofNat 32 14)) 0#32) 0#1
            &&& IntOp.cmpi .ne (IntOp.remsi .host (w (ix1 l)) (BitVec.ofNat 32 14)) 0#32)
          (IntOp.remsi .host (w (ix1 l)) (BitVec.ofNat 32 14) + 14#32) (IntOp.remsi .host (w (ix1 l)) (BitVec.ofNat 32 14)) := rfl
  have hs : ∀ r < 14, IntOp.cmpi .slt (BitVec.ofNat 32 r) 0#32 = 0#1 := by decide
  rw [e, hw, Routing.remsi_word .host (by omega) (by omega) (by omega), hs _ (Nat.mod_lt _ (by omega)), cmpi_ne_self,
    BitVec.zero_and]
  rfl

/-! ## The scaled distance -/

/-- The word the reference multiplies by denotes 4. -/
theorem ofBits_four : Ideal.ofBits .f32 0x40800000#32 = ((4 : ℝ) : EReal) := by
  simp [Ideal.ofBits, Ideal.ieee, -EReal.coe_mul]; norm_num
/-- The word the reference divides by denotes 14. -/
theorem ofBits_fourteen : Ideal.ofBits .f32 0x41600000#32 = ((14 : ℝ) : EReal) := by
  simp [Ideal.ofBits, Ideal.ieee, -EReal.coe_mul]; norm_num

/-- Four times a real over fourteen is two sevenths of it. -/
theorem scale_eq (d : ℝ) :
    Ideal.div (((4 : ℝ) : EReal) * (d : EReal)) ((14 : ℝ) : EReal) = ((2 * 7⁻¹ : ℝ) : EReal) * (d : EReal) := by
  rw [Ideal.div_coe (by norm_num), ← EReal.coe_mul, ← EReal.coe_mul, ← EReal.coe_mul]
  congr 1
  ring

/-- The absolute value of a difference of two reals, on the extended reals, is a real. -/
theorem abs_sub_coe (x y : ℝ) : max ((x : EReal) - (y : EReal)) (-((x : EReal) - (y : EReal))) = ((max (x - y) (-(x - y)) : ℝ) : EReal) := by
  rw [← EReal.coe_sub, ← EReal.coe_neg]
  exact (EReal.coe_strictMono.monotone.map_max).symm

/-- The reference's mask value when its distance is the city-block distance of `(r, c)` from row `q` and column `p`. -/
def refPenalty (q p r c : BitVec 32) : EReal :=
  Ideal.ofBits .f32 0x3B272F05#32
    * max (Ideal.ofBits .f32 0x3F800000#32
        - Ideal.div (Ideal.ofBits .f32 0x40800000#32
            * (max (((r.toInt : ℝ) : EReal) - ((q.toInt : ℝ) : EReal)) (-(((r.toInt : ℝ) : EReal) - ((q.toInt : ℝ) : EReal)))
              + max (((c.toInt : ℝ) : EReal) - ((p.toInt : ℝ) : EReal)) (-(((c.toInt : ℝ) : EReal) - ((p.toInt : ℝ) : EReal)))))
          (Ideal.ofBits .f32 0x41600000#32))
      (Ideal.ofBits .f32 0xBF800000#32)

/-- The kernel's penalty, its distance scaled by two sevenths, is the reference's mask value. -/
theorem penalty_eq (k : ℕ) (hk : k < 196) (r c : BitVec 32) :
    penalty (F := Ideal) (((2 * 7⁻¹ : ℝ) : EReal) : Ideal .f32) (BitVec.ofNat 32 k) r c
      = refPenalty (BitVec.ofNat 32 (k / 14)) (BitVec.ofNat 32 (k % 14)) r c := by
  have e : penalty (F := Ideal) (((2 * 7⁻¹ : ℝ) : EReal) : Ideal .f32) (BitVec.ofNat 32 k) r c
      = Ideal.ofBits .f32 0x3B272F05#32
        * max (Ideal.ofBits .f32 0x3F800000#32
            - ((2 * 7⁻¹ : ℝ) : EReal)
              * (max (((r.toInt : ℝ) : EReal) - (((IntOp.divsi .vector (BitVec.ofNat 32 k) (BitVec.ofNat 32 14)).toInt : ℝ) : EReal))
                    (-(((r.toInt : ℝ) : EReal) - (((IntOp.divsi .vector (BitVec.ofNat 32 k) (BitVec.ofNat 32 14)).toInt : ℝ) : EReal)))
                + max (((c.toInt : ℝ) : EReal) - (((IntOp.remsi .vector (BitVec.ofNat 32 k) (BitVec.ofNat 32 14)).toInt : ℝ) : EReal))
                    (-(((c.toInt : ℝ) : EReal) - (((IntOp.remsi .vector (BitVec.ofNat 32 k) (BitVec.ofNat 32 14)).toInt : ℝ) : EReal)))))
          (Ideal.ofBits .f32 0xBF800000#32) := rfl
  rw [e, Routing.divsi_word .vector (by omega) (by omega) (by omega), Routing.remsi_word .vector (by omega) (by omega) (by omega)]
  unfold refPenalty
  rw [ofBits_four, ofBits_fourteen, abs_sub_coe, abs_sub_coe, ← EReal.coe_add, scale_eq]

/-! ## The reference's mask at a position -/

/-- A channel vector spread along the rows, read at a position: the channel's entry. -/
theorem spread_rows_apply (q : FVec Ideal S512 .f32) (y : S14x1x512.Idx) :
    broadcastInDim S14x1x512 ![0, 1, 2] bcast_S1x1x512_S14x1x512_0_1_2 (broadcastInDim S1x1x512 ![2] bcast_S512_S1x1x512_2 q) y
      = q (ix1 (y 2)) :=
  congrArg q (funext fun a => by
    obtain rfl : a = 0 := Subsingleton.elim _ _
    rfl)

/-- A channel vector spread along the columns, read at a position: the channel's entry. -/
theorem spread_cols_apply (p : FVec Ideal S512 .f32) (y : S1x14x512.Idx) :
    broadcastInDim S1x14x512 ![0, 1, 2] bcast_S1x1x512_S1x14x512_0_1_2 (broadcastInDim S1x1x512 ![2] bcast_S512_S1x1x512_2 p) y
      = p (ix1 (y 2)) :=
  congrArg p (funext fun a => by
    obtain rfl : a = 0 := Subsingleton.elim _ _
    rfl)

/-- The reference's distance at a position: how far its row is from the place's row, plus the same of the columns. -/
theorem dist_apply (q p : FVec Ideal S512 .f32) (i j : Fin 14) (l : Fin 512) :
    Ref.dist q p (ix3 i j l)
      = (max ((((BitVec.ofNat 32 i.val).toInt : ℝ) : EReal) - q (ix1 l)) (-((((BitVec.ofNat 32 i.val).toInt : ℝ) : EReal) - q (ix1 l)))
          + max ((((BitVec.ofNat 32 j.val).toInt : ℝ) : EReal) - p (ix1 l)) (-((((BitVec.ofNat 32 j.val).toInt : ℝ) : EReal) - p (ix1 l)))
          : EReal) := by
  have hq := funext (spread_rows_apply q)
  have hp := funext (spread_cols_apply p)
  unfold Ref.dist
  rw [hq, hp]
  rfl

/-- The reference's mask at a position, in terms of its distance there. -/
theorem mask_apply (D : FVec Ideal S14x14x512 .f32) (y : S14x14x512.Idx) :
    Ref.mask D y
      = (Ideal.ofBits .f32 0x3B272F05#32
          * max (Ideal.ofBits .f32 0x3F800000#32
              - Ideal.div (Ideal.ofBits .f32 0x40800000#32 * D y) (Ideal.ofBits .f32 0x41600000#32))
            (Ideal.ofBits .f32 0xBF800000#32) : EReal) := rfl

/-- The kernel's masked array at row `14 i + j` and channel `l` is the reference's product there: the value times the mask
    around the place of the channel's maximum. -/
theorem masked_eq (X : FVec Ideal S196x512 .f32) (i j : Fin 14) (l : Fin 512) (n : Fin 196) (hn : n.val = 14 * i.val + j.val) :
    masked (C := 512) (((2 * 7⁻¹ : ℝ) : EReal) : Ideal .f32) X (ix2 n l)
      = (X (ix2 n l) * Ref.mask (F := Ideal) (Ref.dist (sitofp .f32 (Ref.quot (Ref.place X))) (sitofp .f32 (Ref.remn (Ref.place X)))) (ix3 i j l)
          : EReal) := by
  obtain ⟨k, hk, -, e⟩ := runMax_place (column X l) 196 le_rfl
  have hm : masked (C := 512) (((2 * 7⁻¹ : ℝ) : EReal) : Ideal .f32) X (ix2 n l)
      = (X (ix2 n l) * penalty (F := Ideal) (((2 * 7⁻¹ : ℝ) : EReal) : Ideal .f32) (runMax (column X l) 196).2
          (BitVec.ofNat 32 (n.val / 14)) (BitVec.ofNat 32 (n.val % 14)) : EReal) := rfl
  have hi : n.val / 14 = i.val := by have := j.isLt; omega
  have hj : n.val % 14 = j.val := by have := j.isLt; omega
  have hq : (sitofp (F := Ideal) .f32 (Ref.quot (Ref.place X)) (ix1 l) : EReal) = (((BitVec.ofNat 32 (k / 14)).toInt : ℝ) : EReal) := by
    rw [← quot_eq (Ref.place X) l k hk ((place_eq X l).trans e)]
    rfl
  have hp : (sitofp (F := Ideal) .f32 (Ref.remn (Ref.place X)) (ix1 l) : EReal) = (((BitVec.ofNat 32 (k % 14)).toInt : ℝ) : EReal) := by
    rw [← remn_eq (Ref.place X) l k hk ((place_eq X l).trans e)]
    rfl
  rw [hm, e, hi, hj, penalty_eq k hk, mask_apply, dist_apply, hq, hp]
  rfl

end Cert.Proof

end
-- ==== Proof.Equation.lean ====
/-
  The equation of the two results on the extended reals. Both arrays are zero off batch element 0; there the kernel's rows
  are the reference's 14 by 14 positions in one line, each holding the value times the same penalty.
-/
module

public import proofs.«01_k».proof.Proof.Mask
public import proofs.«01_k».proof.Proof.KIRun
public import Idealize.ShloMosaic.Lib.Routing.OpsSet

@[expose] public section

noncomputable section

namespace Cert.Proof

open Idealize.ShloMosaic Idealize.ShloMosaic.ValueIdx

/-! ## Putting an array at batch element 0 -/

/-- The batch index both programs scatter at: the word 0. -/
theorem start_zero {s u : Shape} (d : ScatterDims s ⟨1, ![1]⟩ u) (idx : IVec ⟨1, ![1]⟩ 32) (hidx : ∀ i, idx i = 0#32) (k : u.Idx)
    (a : Fin s.rank) : d.start k idx a = 0 := by
  unfold ScatterDims.start
  split
  · rw [hidx]; rfl
  · rfl

/-- The kernel's array of 196 rows, put at batch element 0 of zeros, read there. -/
theorem put_rows_zero (idx : IVec ⟨1, ![1]⟩ 32) (hidx : ∀ i, idx i = 0#32) (x0 : Cert.KernelIdeal.S8x196x512.Idx → EReal)
    (upd : Cert.KernelIdeal.S196x512.Idx → EReal) (b : Fin 8) (hb : b.val = 0) (n : Fin 196) (l : Fin 512) :
    Host.scatter Cert.KernelIdeal.scatter_S8x196x512_S1_S196x512_01_0_0_0 (fun _ b => b) x0 idx upd (ix3 b n l) = upd (ix2 n l) := by
  have hw : ∀ (k : Cert.KernelIdeal.S196x512.Idx),
      Cert.KernelIdeal.scatter_S8x196x512_S1_S196x512_01_0_0_0.resultIdx? k idx = some (ix3 b n l) ↔ k = ix2 n l := by
    intro k
    rw [Routing.resultIdx?_eq_some]
    simp only [start_zero _ idx hidx]
    constructor
    · intro h
      have h1 : (0 : ℤ) + ((k 0).val : ℤ) = (n.val : ℤ) := h 1
      have h2 : (0 : ℤ) + ((k 1).val : ℤ) = (l.val : ℤ) := h 2
      have e0 : k 0 = n := Fin.ext (by omega)
      have e1 : k 1 = l := Fin.ext (by omega)
      rw [eq_ix2 k, e0, e1]
      rfl
    · rintro rfl a
      match a with
      | ⟨0, _⟩ => show (0 : ℤ) + ((0 : ℕ) : ℤ) = (b.val : ℤ); omega
      | ⟨1, _⟩ => show (0 : ℤ) + (n.val : ℤ) = (n.val : ℤ); omega
      | ⟨2, _⟩ => show (0 : ℤ) + (l.val : ℤ) = (l.val : ℤ); omega
  exact Routing.scatter_set_hit _ x0 idx upd _ _ (fun k hk => by rw [(hw k).1 hk]) (ix2 n l) ((hw _).2 rfl)

/-- Off batch element 0 the operand stays. -/
theorem put_rows_ne (idx : IVec ⟨1, ![1]⟩ 32) (hidx : ∀ i, idx i = 0#32) (x0 : Cert.KernelIdeal.S8x196x512.Idx → EReal)
    (upd : Cert.KernelIdeal.S196x512.Idx → EReal) (b : Fin 8) (hb : b.val ≠ 0) (n : Fin 196) (l : Fin 512) :
    Host.scatter Cert.KernelIdeal.scatter_S8x196x512_S1_S196x512_01_0_0_0 (fun _ b => b) x0 idx upd (ix3 b n l) = x0 (ix3 b n l) := by
  refine Routing.scatter_set_miss _ x0 idx upd _ fun k hk => hb ?_
  rw [Routing.resultIdx?_eq_some] at hk
  have h := hk 0
  rw [start_zero _ idx hidx] at h
  have h0 : (0 : ℤ) + ((0 : ℕ) : ℤ) = (b.val : ℤ) := h
  omega

/-- The reference's array of 14 by 14 positions, put at batch element 0 of zeros, read there. -/
theorem put_image_zero (idx : IVec ⟨1, ![1]⟩ 32) (hidx : ∀ i, idx i = 0#32) (x0 : Cert.ReferenceIdeal.S8x14x14x512.Idx → EReal)
    (upd : Cert.ReferenceIdeal.S14x14x512.Idx → EReal) (b : Fin 8) (hb : b.val = 0) (i j : Fin 14) (l : Fin 512) :
    Host.scatter Cert.ReferenceIdeal.scatter_S8x14x14x512_S1_S14x14x512_012_0_0_0 (fun _ b => b) x0 idx upd (ix4 b i j l)
      = upd (ix3 i j l) := by
  have hw : ∀ (k : Cert.ReferenceIdeal.S14x14x512.Idx),
      Cert.ReferenceIdeal.scatter_S8x14x14x512_S1_S14x14x512_012_0_0_0.resultIdx? k idx = some (ix4 b i j l) ↔ k = ix3 i j l := by
    intro k
    rw [Routing.resultIdx?_eq_some]
    simp only [start_zero _ idx hidx]
    constructor
    · intro h
      have h1 : (0 : ℤ) + ((k 0).val : ℤ) = (i.val : ℤ) := h 1
      have h2 : (0 : ℤ) + ((k 1).val : ℤ) = (j.val : ℤ) := h 2
      have h3 : (0 : ℤ) + ((k 2).val : ℤ) = (l.val : ℤ) := h 3
      have e0 : k 0 = i := Fin.ext (by omega)
      have e1 : k 1 = j := Fin.ext (by omega)
      have e2 : k 2 = l := Fin.ext (by omega)
      rw [eq_ix3 k, e0, e1, e2]
      rfl
    · rintro rfl a
      match a with
      | ⟨0, _⟩ => show (0 : ℤ) + ((0 : ℕ) : ℤ) = (b.val : ℤ); omega
      | ⟨1, _⟩ => show (0 : ℤ) + (i.val : ℤ) = (i.val : ℤ); omega
      | ⟨2, _⟩ => show (0 : ℤ) + (j.val : ℤ) = (j.val : ℤ); omega
      | ⟨3, _⟩ => show (0 : ℤ) + (l.val : ℤ) = (l.val : ℤ); omega
  exact Routing.scatter_set_hit _ x0 idx upd _ _ (fun k hk => by rw [(hw k).1 hk]) (ix3 i j l) ((hw _).2 rfl)

/-- Off batch element 0 the operand stays. -/
theorem put_image_ne (idx : IVec ⟨1, ![1]⟩ 32) (hidx : ∀ i, idx i = 0#32) (x0 : Cert.ReferenceIdeal.S8x14x14x512.Idx → EReal)
    (upd : Cert.ReferenceIdeal.S14x14x512.Idx → EReal) (b : Fin 8) (hb : b.val ≠ 0) (i j : Fin 14) (l : Fin 512) :
    Host.scatter Cert.ReferenceIdeal.scatter_S8x14x14x512_S1_S14x14x512_012_0_0_0 (fun _ b => b) x0 idx upd (ix4 b i j l)
      = x0 (ix4 b i j l) := by
  refine Routing.scatter_set_miss _ x0 idx upd _ fun k hk => hb ?_
  rw [Routing.resultIdx?_eq_some] at hk
  have h := hk 0
  rw [start_zero _ idx hidx] at h
  have h0 : (0 : ℤ) + ((0 : ℕ) : ℤ) = (b.val : ℤ) := h
  omega

/-! ## The two layouts -/

/-- Row `14 i + j` of the flattened image is the image at `(i, j)`. -/
theorem flat_apply (a : FVec Ideal Cert.ReferenceIdeal.S8x14x14x512 .f32) (i j : Fin 14) (l : Fin 512) (n : Fin 196)
    (hn : n.val = 14 * i.val + j.val) : Ref.flat a (ix2 n l) = Ref.img a (ix3 i j l) :=
  shapeCast_apply _ _ (ix2 n l) (ix3 i j l) (by
    rw [Shape.rowMajor_val_two, Shape.rowMajor_val_three]
    show (i.val * 14 + j.val) * 512 + l.val = n.val * 512 + l.val
    rw [hn]; omega)

/-- The kernel's result is the reference's, as functions of the argument. -/
theorem result_eq (m : (ℓ : Loc Cert.KernelIdeal.nD Cert.KernelIdeal.τ Cert.KernelIdeal.sig) → Buf (Elt Ideal) ℓ)
    (d : Dev Cert.KernelIdeal.nD) :
    Ideal.Rv m d = Ref.result (F := Idealize.ShloMosaic.Ideal) (m (Ideal.aLoc d)) := by
  funext y
  obtain ⟨b, i, j, l, rfl⟩ : ∃ (b : Fin 8) (i j : Fin 14) (l : Fin 512), y = ix4 b i j l := ⟨y 0, y 1, y 2, y 3, eq_ix4 y⟩
  have hlt : 14 * i.val + j.val < 196 := by have := i.isLt; have := j.isLt; omega
  have hβ : (Ideal.β : Idealize.ShloMosaic.Ideal .f32) = (((2 * 7⁻¹ : ℝ) : EReal) : Idealize.ShloMosaic.Ideal .f32) :=
    IdealRules.named_const.ideal_named_scalar _ _ _ _ rfl
  have hcast : Ideal.Rv m d (ix4 b i j l)
      = Host.scatter Cert.KernelIdeal.scatter_S8x196x512_S1_S196x512_01_0_0_0 (fun _ b => b)
          (broadcastInDim Cert.KernelIdeal.S8x196x512 ![] Cert.KernelIdeal.Gen.bcast_S_S8x196x512 (constant (F := Idealize.ShloMosaic.Ideal) Cert.KernelIdeal.S_ .f32 0x00000000#32))
          (broadcastInDim Cert.KernelIdeal.S1 ![] Cert.KernelIdeal.Gen.bcast_S_S1 (constantI Cert.KernelIdeal.S_ 32 0#32))
          (Ideal.R d (Ideal.X m d)) (ix3 b ⟨14 * i.val + j.val, hlt⟩ l) :=
    shapeCast_apply _ _ (ix4 b i j l) (ix3 b ⟨14 * i.val + j.val, hlt⟩ l) (by
      rw [Shape.rowMajor_val_three, Shape.rowMajor_val_four]
      show (b.val * 196 + (14 * i.val + j.val)) * 512 + l.val = ((b.val * 14 + i.val) * 14 + j.val) * 512 + l.val
      omega)
  have hX : (Ideal.X m d : FVec Idealize.ShloMosaic.Ideal Cert.ReferenceIdeal.S196x512 .f32)
      = Ref.flat (F := Idealize.ShloMosaic.Ideal) (m (Ideal.aLoc d)) := Ideal.X_eq m d
  refine hcast.trans ?_
  unfold Ref.result Ref.placed
  by_cases hb : b.val = 0
  · refine (put_rows_zero _ (fun _ => rfl) _ _ b hb _ l).trans (Eq.trans ?_ (put_image_zero _ (fun _ => rfl) _ _ b hb i j l).symm)
    refine (congrArg (fun X : FVec Idealize.ShloMosaic.Ideal Cert.ReferenceIdeal.S196x512 .f32 =>
      masked (C := 512) (Ideal.β : Idealize.ShloMosaic.Ideal .f32) X (ix2 ⟨14 * i.val + j.val, hlt⟩ l)) hX).trans ?_
    rw [hβ]
    show masked (C := 512) _ _ (ix2 _ l) = _
    rw [masked_eq _ i j l _ rfl, flat_apply _ i j l _ rfl]
    rfl
  · refine (put_rows_ne _ (fun _ => rfl) _ _ b hb _ l).trans (Eq.trans ?_ (put_image_ne _ (fun _ => rfl) _ _ b hb i j l).symm)
    rfl

end Cert.Proof

end
-- ==== Proof.lean ====
/-
  The five claims. The kernel as compiled and the idealized one run and leave their argument and every semaphore as they
  were; so does the reference; the constant of the ledger is 2/7; and on the extended reals the idealized kernel and the
  reference give equal results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Equation
public import proofs.«01_k».proof.Proof.KRun
public import Idealize.ShloMosaic.Adequacy
public import Idealize.ShloMosaic.Init

@[expose] public section

noncomputable section

namespace Cert.Proof

open Idealize.ShloMosaic Idealize.SL.Sem

/-- The kernel as compiled runs, leaves its argument unchanged, and ends with every semaphore at zero. -/
theorem frame_p : Cert.quiescent_Kernel := fun m ρ _ =>
  (θ_run Cert.Kernel.defs _ _).mono (fun _ h => ⟨fun c => (h.1 c).1, h.2⟩) (Comp.run_main m ρ)

/-- The idealized kernel runs, leaves its argument unchanged, and ends with every semaphore at zero. -/
theorem frame_pi : Cert.quiescent_KernelIdeal := fun m ρ _ =>
  (θ_run Cert.KernelIdeal.defs _ _).mono (fun _ h => ⟨fun c => (h.1 c).1, h.2⟩) (Ideal.run_main m ρ)

/-- The reference runs, leaves its argument unchanged, and ends with every semaphore at zero: it has none. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩) (Ref.run m ρ)

/-- The one constant the idealized kernel names stands for two sevenths. -/
theorem preserves : Cert.preserves_Kernel_KernelIdeal :=
  IdealRules.named_const.statement Cert.KernelIdeal.κ "beta_over_n" .f32 0x3E924925#32 ((2 * 7⁻¹ : ℝ) : EReal) rfl

/-- From equal arguments the idealized kernel and the reference end with equal results, their arguments unchanged. -/
theorem algebraic : Cert.algebraic_KernelIdeal_ReferenceIdeal := by
  intro m ρ m' ρ' _ hagree
  refine ⟨fun c => Ideal.Rv m c, (θ_run Cert.KernelIdeal.defs _ _).mono (fun _ h c => ⟨(h.1 c).2, (h.1 c).1⟩) (Ideal.run_main m ρ), ?_⟩
  refine (θ_run Cert.ReferenceIdeal.defs _ _).mono (fun _ h c => ⟨(h c).1.trans ?_, (h c).2⟩) (Ref.run m' ρ')
  rw [hagree c]
  exact (result_eq m c).symm

/-- All the claims, behind the side conditions the three programs state. -/
theorem claim : Cert.Claim :=
  ⟨Cert.Kernel.Gen.facts, Cert.KernelIdeal.Gen.facts, Cert.ReferenceIdeal.Gen.facts, frame_p, frame_pi, frame_ri, preserves, algebraic⟩

end Cert.Proof

end
